-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_neighbours_distinct [hPre_neighbours_distinct : Cert.Pre_neighbours_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_neighbours_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_neighbours_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_neighbours_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_neighbours_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_neighbours_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_neighbours_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_neighbours_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_neighbours_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_neighbours_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_neighbours_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_neighbours_distinct [hPre_neighbours_distinct : Cert.Pre_neighbours_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_neighbours_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_neighbours_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_neighbours_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_neighbours_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_neighbours_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_neighbours_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_neighbours_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_neighbours_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_neighbours_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_neighbours_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_neighbours_distinct [hKernelIdeal : Cert.KernelIdeal.Facts] [hPre_neighbours_distinct : Cert.Pre_neighbours_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_neighbours_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_neighbours_distinct [hReferenceIdeal : Cert.ReferenceIdeal.Facts] [hPre_neighbours_distinct : Cert.Pre_neighbours_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_neighbours_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "far" .f32 0x7F61B1E6#32 ⊤
  ∧ IdealRules.named_const.Statement Cert.KernelIdeal.κ "inv_sqrt2" .bf16 0x3F35#16 ((11863283 / 16777216 : ℝ) : EReal)

def algebraic_KernelIdeal_ReferenceIdeal_pre_neighbours_distinct [hKernelIdeal : Cert.KernelIdeal.Facts] [hReferenceIdeal : Cert.ReferenceIdeal.Facts] [hPre_neighbours_distinct : Cert.Pre_neighbours_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_neighbours_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_neighbours_distinct : Cert.Pre_neighbours_distinct.Facts),
    quiescent_Kernel (hKernel := hKernel)
    ∧ quiescent_KernelIdeal (hKernelIdeal := hKernelIdeal)
    ∧ quiescent_KernelIdeal_pre_neighbours_distinct (hKernelIdeal := hKernelIdeal) (hPre_neighbours_distinct := hPre_neighbours_distinct)
    ∧ quiescent_ReferenceIdeal (hReferenceIdeal := hReferenceIdeal)
    ∧ quiescent_ReferenceIdeal_pre_neighbours_distinct (hReferenceIdeal := hReferenceIdeal) (hPre_neighbours_distinct := hPre_neighbours_distinct)
    ∧ preserves_Kernel_KernelIdeal
    ∧ algebraic_KernelIdeal_ReferenceIdeal_pre_neighbours_distinct (hKernelIdeal := hKernelIdeal) (hReferenceIdeal := hReferenceIdeal) (hPre_neighbours_distinct := hPre_neighbours_distinct)
-- ==== Pre_neighbours_distinct.lean ====
abbrev S16384x20x9 : Shape := ⟨3, ![16384, 20, 9]⟩
abbrev S9x128 : Shape := ⟨2, ![9, 128]⟩
abbrev S128 : Shape := ⟨1, ![128]⟩
abbrev S128x128 : Shape := ⟨2, ![128, 128]⟩
abbrev S16384x20x3 : Shape := ⟨3, ![16384, 20, 3]⟩
abbrev S16384x20x1x3 : Shape := ⟨4, ![16384, 20, 1, 3]⟩
abbrev S16384x1x20x3 : Shape := ⟨4, ![16384, 1, 20, 3]⟩
abbrev S16384x20x20x3 : Shape := ⟨4, ![16384, 20, 20, 3]⟩
abbrev S_ : Shape := ⟨0, ![]⟩
abbrev S16384x20x20 : Shape := ⟨3, ![16384, 20, 20]⟩
abbrev S16384x20x20x1 : Shape := ⟨4, ![16384, 20, 20, 1]⟩
abbrev S16384x20x1x20 : Shape := ⟨4, ![16384, 20, 1, 20]⟩
abbrev S16384x20x20x20 : Shape := ⟨4, ![16384, 20, 20, 20]⟩
abbrev S1x1x20x20 : Shape := ⟨4, ![1, 1, 20, 20]⟩

class Facts : Prop where
  slices_S16384x20x9_S16384x20x3_0_0_6 : S16384x20x9.Slices ![0, 0, 6] S16384x20x3
  bcast_S16384x20x3_S16384x20x1x3_0_1_3 : S16384x20x3.BroadcastsInDim S16384x20x1x3 (![0, 1, 3] : Fin 3 → Fin S16384x20x1x3.rank)
  bcast_S16384x20x3_S16384x1x20x3_0_2_3 : S16384x20x3.BroadcastsInDim S16384x1x20x3 (![0, 2, 3] : Fin 3 → Fin S16384x1x20x3.rank)
  bcast_S16384x20x1x3_S16384x20x20x3_0_1_2_3 : S16384x20x1x3.BroadcastsInDim S16384x20x20x3 (![0, 1, 2, 3] : Fin 4 → Fin S16384x20x20x3.rank)
  bcast_S16384x1x20x3_S16384x20x20x3_0_1_2_3 : S16384x1x20x3.BroadcastsInDim S16384x20x20x3 (![0, 1, 2, 3] : Fin 4 → Fin S16384x20x20x3.rank)
  reducesTo_S16384x20x20x3_S16384x20x20_d3 : S16384x20x20x3.ReducesTo [3] S16384x20x20
  h_S_ : 0 < S_.numel
  bcast_S_S16384x20x20 : S_.BroadcastsInDim S16384x20x20 (![] : Fin 0 → Fin S16384x20x20.rank)
  bcast_S16384x20x20_S16384x20x20x1_0_1_2 : S16384x20x20.BroadcastsInDim S16384x20x20x1 (![0, 1, 2] : Fin 3 → Fin S16384x20x20x1.rank)
  bcast_S16384x20x20_S16384x20x1x20_0_1_3 : S16384x20x20.BroadcastsInDim S16384x20x1x20 (![0, 1, 3] : Fin 3 → Fin S16384x20x1x20.rank)
  bcast_S16384x20x1x20_S16384x20x20x20_0_1_2_3 : S16384x20x1x20.BroadcastsInDim S16384x20x20x20 (![0, 1, 2, 3] : Fin 4 → Fin S16384x20x20x20.rank)
  bcast_S16384x20x20x1_S16384x20x20x20_0_1_2_3 : S16384x20x20x1.BroadcastsInDim S16384x20x20x20 (![0, 1, 2, 3] : Fin 4 → Fin S16384x20x20x20.rank)
  reducesTo_S16384x20x20x20_S16384x20x20_d3 : S16384x20x20x20.ReducesTo [3] S16384x20x20
  bcast_S_S16384x20x9 : S_.BroadcastsInDim S16384x20x9 (![] : Fin 0 → Fin S16384x20x9.rank)
  bcast_S_S9x128 : S_.BroadcastsInDim S9x128 (![] : Fin 0 → Fin S9x128.rank)
  bcast_S_S128 : S_.BroadcastsInDim S128 (![] : Fin 0 → Fin S128.rank)
  bcast_S_S128x128 : S_.BroadcastsInDim S128x128 (![] : Fin 0 → Fin S128x128.rank)
  bcast_S1x1x20x20_S16384x20x20x20_0_1_2_3 : S1x1x20x20.BroadcastsInDim S16384x20x20x20 (![0, 1, 2, 3] : Fin 4 → Fin S16384x20x20x20.rank)
  bcast_S_S16384x20x20x1 : S_.BroadcastsInDim S16384x20x20x1 (![] : Fin 0 → Fin S16384x20x20x1.rank)

variable [Facts]

def fn_part2 {F : FTy → Type} [FloatOps F] (main_arg7 : FVec F S128 .f32) (main_arg8 : FVec F S128 .f32) (main_v10 : FVec F S16384x20x20x1 .f32) (main_v11 : FVec F S16384x20x1x20 .f32) (main_v16 : FVec F S16384x20x20 .f32) (main_v17 : IVec S1x1x20x20 32) (main_v18 : IVec S1x1x20x20 32) (main_v21 : IVec S16384x20x9 1) (main_v24 : IVec S9x128 1) (main_v27 : IVec S128 1) (main_v30 : IVec S128x128 1) (main_v33 : IVec S128 1) (main_v36 : IVec S128x128 1) (main_v37 : FVec F S128 .f32) (main_cst_8 : FVec F S_ .f32) : IVec S16384x20x20x20 1 × IVec S16384x20x9 1 × IVec S9x128 1 × IVec S128 1 × IVec S128x128 1 × IVec S128 1 × IVec S128x128 1 × IVec S128 1 × IVec S128 1 × IVec S128 1 :=
  let main_v38 : FVec F S128 .f32 := broadcastInDim S128 ![] bcast_S_S128 main_cst_8
  let main_v39 : IVec S128 1 := cmpf .olt main_v37 main_v38
  let main_v40 : FVec F S128 .f32 := Host.absf main_arg7
  let main_cst_9 : FVec F S_ .f32 := constant S_ .f32 0x7F800000#32
  let main_v41 : FVec F S128 .f32 := broadcastInDim S128 ![] bcast_S_S128 main_cst_9
  let main_v42 : IVec S128 1 := cmpf .olt main_v40 main_v41
  let main_v43 : FVec F S128 .f32 := Host.absf main_arg8
  let main_cst_10 : FVec F S_ .f32 := constant S_ .f32 0x7F800000#32
  let main_v44 : FVec F S128 .f32 := broadcastInDim S128 ![] bcast_S_S128 main_cst_10
  let main_v45 : IVec S128 1 := cmpf .olt main_v43 main_v44
  let main_v46 : FVec F S16384x20x20x20 .f32 := broadcastInDim S16384x20x20x20 ![0, 1, 2, 3] bcast_S16384x20x20x1_S16384x20x20x20_0_1_2_3 main_v10
  let main_v47 : FVec F S16384x20x20x20 .f32 := broadcastInDim S16384x20x20x20 ![0, 1, 2, 3] bcast_S16384x20x1x20_S16384x20x20x20_0_1_2_3 main_v11
  let main_v48 : IVec S16384x20x20x20 1 := cmpf .une main_v46 main_v47
  let main_v49 : IVec S1x1x20x20 1 := cmpi .eq main_v17 main_v18
  let main_v50 : IVec S16384x20x20x20 1 := broadcastInDim S16384x20x20x20 ![0, 1, 2, 3] bcast_S1x1x20x20_S16384x20x20x20_0_1_2_3 main_v49
  let main_v51 : IVec S16384x20x20x20 1 := ori main_v48 main_v50
  let main_v52 : FVec F S16384x20x20x1 .f32 := broadcastInDim S16384x20x20x1 ![0, 1, 2] bcast_S16384x20x20_S16384x20x20x1_0_1_2 main_v16
  let main_cst_11 : FVec F S_ .f32 := constant S_ .f32 0x40A00000#32
  let main_v53 : FVec F S16384x20x20x1 .f32 := broadcastInDim S16384x20x20x1 ![] bcast_S_S16384x20x20x1 main_cst_11
  let main_v54 : IVec S16384x20x20x1 1 := cmpf .oge main_v52 main_v53
  let main_v55 : IVec S16384x20x20x20 1 := broadcastInDim S16384x20x20x20 ![0, 1, 2, 3] bcast_S16384x20x20x1_S16384x20x20x20_0_1_2_3 main_v54
  let main_v56 : IVec S16384x20x20x20 1 := ori main_v51 main_v55
  (main_v56, main_v21, main_v24, main_v27, main_v30, main_v33, main_v36, main_v39, main_v42, main_v45)

def fn_part1 {F : FTy → Type} [FloatOps F] (main_arg1 : FVec F S9x128 .f32) (main_arg2 : FVec F S128 .f32) (main_arg3 : FVec F S128x128 .f32) (main_arg4 : FVec F S128 .f32) (main_arg5 : FVec F S128x128 .f32) (main_arg6 : FVec F S128 .f32) (main_arg7 : FVec F S128 .f32) (main_arg8 : FVec F S128 .f32) (main_v10 : FVec F S16384x20x20x1 .f32) (main_v11 : FVec F S16384x20x1x20 .f32) (main_v16 : FVec F S16384x20x20 .f32) (main_v17 : IVec S1x1x20x20 32) (main_v18 : IVec S1x1x20x20 32) (main_v19 : FVec F S16384x20x9 .f32) (main_cst_2 : FVec F S_ .f32) : IVec S16384x20x20x20 1 × IVec S16384x20x9 1 × IVec S9x128 1 × IVec S128 1 × IVec S128x128 1 × IVec S128 1 × IVec S128x128 1 × IVec S128 1 × IVec S128 1 × IVec S128 1 :=
  let main_v20 : FVec F S16384x20x9 .f32 := broadcastInDim S16384x20x9 ![] bcast_S_S16384x20x9 main_cst_2
  let main_v21 : IVec S16384x20x9 1 := cmpf .olt main_v19 main_v20
  let main_v22 : FVec F S9x128 .f32 := Host.absf main_arg1
  let main_cst_3 : FVec F S_ .f32 := constant S_ .f32 0x7F800000#32
  let main_v23 : FVec F S9x128 .f32 := broadcastInDim S9x128 ![] bcast_S_S9x128 main_cst_3
  let main_v24 : IVec S9x128 1 := cmpf .olt main_v22 main_v23
  let main_v25 : FVec F S128 .f32 := Host.absf main_arg2
  let main_cst_4 : FVec F S_ .f32 := constant S_ .f32 0x7F800000#32
  let main_v26 : FVec F S128 .f32 := broadcastInDim S128 ![] bcast_S_S128 main_cst_4
  let main_v27 : IVec S128 1 := cmpf .olt main_v25 main_v26
  let main_v28 : FVec F S128x128 .f32 := Host.absf main_arg3
  let main_cst_5 : FVec F S_ .f32 := constant S_ .f32 0x7F800000#32
  let main_v29 : FVec F S128x128 .f32 := broadcastInDim S128x128 ![] bcast_S_S128x128 main_cst_5
  let main_v30 : IVec S128x128 1 := cmpf .olt main_v28 main_v29
  let main_v31 : FVec F S128 .f32 := Host.absf main_arg4
  let main_cst_6 : FVec F S_ .f32 := constant S_ .f32 0x7F800000#32
  let main_v32 : FVec F S128 .f32 := broadcastInDim S128 ![] bcast_S_S128 main_cst_6
  let main_v33 : IVec S128 1 := cmpf .olt main_v31 main_v32
  let main_v34 : FVec F S128x128 .f32 := Host.absf main_arg5
  let main_cst_7 : FVec F S_ .f32 := constant S_ .f32 0x7F800000#32
  let main_v35 : FVec F S128x128 .f32 := broadcastInDim S128x128 ![] bcast_S_S128x128 main_cst_7
  let main_v36 : IVec S128x128 1 := cmpf .olt main_v34 main_v35
  let main_v37 : FVec F S128 .f32 := Host.absf main_arg6
  let main_cst_8 : FVec F S_ .f32 := constant S_ .f32 0x7F800000#32
  fn_part2 (F := F) main_arg7 main_arg8 main_v10 main_v11 main_v16 main_v17 main_v18 main_v21 main_v24 main_v27 main_v30 main_v33 main_v36 main_v37 main_cst_8

def fn {F : FTy → Type} [FloatOps F] (main_arg0 : FVec F S16384x20x9 .f32) (main_arg1 : FVec F S9x128 .f32) (main_arg2 : FVec F S128 .f32) (main_arg3 : FVec F S128x128 .f32) (main_arg4 : FVec F S128 .f32) (main_arg5 : FVec F S128x128 .f32) (main_arg6 : FVec F S128 .f32) (main_arg7 : FVec F S128 .f32) (main_arg8 : FVec F S128 .f32) (main_arg9 : FVec F S128 .f32) (main_arg10 : FVec F S128 .f32) : IVec S16384x20x20x20 1 × IVec S16384x20x9 1 × IVec S9x128 1 × IVec S128 1 × IVec S128x128 1 × IVec S128 1 × IVec S128x128 1 × IVec S128 1 × IVec S128 1 × IVec S128 1 :=
  let main_v0 : FVec F S16384x20x3 .f32 := (extractStridedSlice S16384x20x3 ![0, 0, 6] · slices_S16384x20x9_S16384x20x3_0_0_6) main_arg0
  let main_v1 : FVec F S16384x20x1x3 .f32 := broadcastInDim S16384x20x1x3 ![0, 1, 3] bcast_S16384x20x3_S16384x20x1x3_0_1_3 main_v0
  let main_v2 : FVec F S16384x1x20x3 .f32 := broadcastInDim S16384x1x20x3 ![0, 2, 3] bcast_S16384x20x3_S16384x1x20x3_0_2_3 main_v0
  let main_v3 : FVec F S16384x20x20x3 .f32 := broadcastInDim S16384x20x20x3 ![0, 1, 2, 3] bcast_S16384x20x1x3_S16384x20x20x3_0_1_2_3 main_v1
  let main_v4 : FVec F S16384x20x20x3 .f32 := broadcastInDim S16384x20x20x3 ![0, 1, 2, 3] bcast_S16384x1x20x3_S16384x20x20x3_0_1_2_3 main_v2
  let main_v5 : FVec F S16384x20x20x3 .f32 := subf main_v3 main_v4
  let main_v6 : FVec F S16384x20x20x3 .f32 := mulf main_v5 main_v5
  let main_cst : FVec F S_ .f32 := constant S_ .f32 0x00000000#32
  let main_v7 : FVec F S16384x20x20 .f32 := (fun x v => Host.reduceAdd x v reducesTo_S16384x20x20x3_S16384x20x20_d3 h_S_) main_v6 main_cst
  let main_cst_0 : FVec F S_ .f32 := constant S_ .f32 0x2B8CBCCC#32
  let main_v8 : FVec F S16384x20x20 .f32 := broadcastInDim S16384x20x20 ![] bcast_S_S16384x20x20 main_cst_0
  let main_v9 : FVec F S16384x20x20 .f32 := maximumf main_v7 main_v8
  let main_v10 : FVec F S16384x20x20x1 .f32 := broadcastInDim S16384x20x20x1 ![0, 1, 2] bcast_S16384x20x20_S16384x20x20x1_0_1_2 main_v9
  let main_v11 : FVec F S16384x20x1x20 .f32 := broadcastInDim S16384x20x1x20 ![0, 1, 3] bcast_S16384x20x20_S16384x20x1x20_0_1_3 main_v9
  let main_v12 : FVec F S16384x20x20x20 .f32 := broadcastInDim S16384x20x20x20 ![0, 1, 2, 3] bcast_S16384x20x1x20_S16384x20x20x20_0_1_2_3 main_v11
  let main_v13 : FVec F S16384x20x20x20 .f32 := broadcastInDim S16384x20x20x20 ![0, 1, 2, 3] bcast_S16384x20x20x1_S16384x20x20x20_0_1_2_3 main_v10
  let main_v14 : IVec S16384x20x20x20 1 := cmpf .olt main_v12 main_v13
  let main_v15 : FVec F S16384x20x20x20 .f32 := uitofp .f32 main_v14
  let main_cst_1 : FVec F S_ .f32 := constant S_ .f32 0x00000000#32
  let main_v16 : FVec F S16384x20x20 .f32 := (fun x v => Host.reduceAdd x v reducesTo_S16384x20x20x20_S16384x20x20_d3 h_S_) main_v15 main_cst_1
  let main_v17 : IVec S1x1x20x20 32 := iotaInDim S1x1x20x20 32 2
  let main_v18 : IVec S1x1x20x20 32 := iotaInDim S1x1x20x20 32 3
  let main_v19 : FVec F S16384x20x9 .f32 := Host.absf main_arg0
  let main_cst_2 : FVec F S_ .f32 := constant S_ .f32 0x7F800000#32
  fn_part1 (F := F) main_arg1 main_arg2 main_arg3 main_arg4 main_arg5 main_arg6 main_arg7 main_arg8 main_v10 main_v11 main_v16 main_v17 main_v18 main_v19 main_cst_2
-- ==== Kernel.lean ====
abbrev S16384x20x9 : Shape := ⟨3, ![16384, 20, 9]⟩
abbrev S9x128 : Shape := ⟨2, ![9, 128]⟩
abbrev S128 : Shape := ⟨1, ![128]⟩
abbrev S128x128 : Shape := ⟨2, ![128, 128]⟩
abbrev S16384x20x3 : Shape := ⟨3, ![16384, 20, 3]⟩
abbrev S3x20x16384 : Shape := ⟨3, ![3, 20, 16384]⟩
abbrev S1x128 : Shape := ⟨2, ![1, 128]⟩
abbrev S16384x128 : Shape := ⟨2, ![16384, 128]⟩
abbrev S128x20x9 : Shape := ⟨3, ![128, 20, 9]⟩
abbrev S3x20x128 : Shape := ⟨3, ![3, 20, 128]⟩
abbrev S20x20x128 : Shape := ⟨3, ![20, 20, 128]⟩
abbrev S1x20x128 : Shape := ⟨3, ![1, 20, 128]⟩
abbrev S20x128 : Shape := ⟨2, ![20, 128]⟩
abbrev S20x1x128 : Shape := ⟨3, ![20, 1, 128]⟩
abbrev S128x20x128 : Shape := ⟨3, ![128, 20, 128]⟩
abbrev S1x1x128 : Shape := ⟨3, ![1, 1, 128]⟩
abbrev S128x20 : Shape := ⟨2, ![128, 20]⟩
abbrev S128x20x1 : Shape := ⟨3, ![128, 20, 1]⟩

abbrev nBuf : Space → Nat
  | .hbm => 32
  | .vmem => 16
  | .smem => 0
  | _ => 0

abbrev bufTy : (tb : Table) → Fin (tcTables nBuf tb) → BufTy
  | .hbm, ⟨0, _⟩ => ⟨S16384x20x9, .f32⟩
  | .hbm, ⟨1, _⟩ => ⟨S9x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S16384x20x3, .f32⟩
  | .hbm, ⟨12, _⟩ => ⟨S3x20x16384, .f32⟩
  | .hbm, ⟨13, _⟩ => ⟨S16384x20x9, .bf16⟩
  | .hbm, ⟨14, _⟩ => ⟨S9x128, .bf16⟩
  | .hbm, ⟨15, _⟩ => ⟨S1x128, .f32⟩
  | .hbm, ⟨16, _⟩ => ⟨S1x128, .bf16⟩
  | .hbm, ⟨17, _⟩ => ⟨S128x128, .bf16⟩
  | .hbm, ⟨18, _⟩ => ⟨S1x128, .f32⟩
  | .hbm, ⟨19, _⟩ => ⟨S1x128, .bf16⟩
  | .hbm, ⟨20, _⟩ => ⟨S128x128, .bf16⟩
  | .hbm, ⟨21, _⟩ => ⟨S1x128, .f32⟩
  | .hbm, ⟨22, _⟩ => ⟨S1x128, .bf16⟩
  | .hbm, ⟨23, _⟩ => ⟨S1x128, .f32⟩
  | .hbm, ⟨24, _⟩ => ⟨S1x128, .bf16⟩
  | .hbm, ⟨25, _⟩ => ⟨S1x128, .f32⟩
  | .hbm, ⟨26, _⟩ => ⟨S1x128, .bf16⟩
  | .hbm, ⟨27, _⟩ => ⟨S1x128, .f32⟩
  | .hbm, ⟨28, _⟩ => ⟨S1x128, .bf16⟩
  | .hbm, ⟨29, _⟩ => ⟨S1x128, .f32⟩
  | .hbm, ⟨30, _⟩ => ⟨S1x128, .bf16⟩
  | .hbm, ⟨31, _⟩ => ⟨S16384x128, .f32⟩
  | .local _ .vmem, ⟨0, _⟩ => ⟨S128x20x9, .bf16⟩
  | .local _ .vmem, ⟨1, _⟩ => ⟨S128x20x9, .bf16⟩
  | .local _ .vmem, ⟨2, _⟩ => ⟨S3x20x128, .f32⟩
  | .local _ .vmem, ⟨3, _⟩ => ⟨S3x20x128, .f32⟩
  | .local _ .vmem, ⟨4, _⟩ => ⟨S9x128, .bf16⟩
  | .local _ .vmem, ⟨5, _⟩ => ⟨S1x128, .bf16⟩
  | .local _ .vmem, ⟨6, _⟩ => ⟨S128x128, .bf16⟩
  | .local _ .vmem, ⟨7, _⟩ => ⟨S1x128, .bf16⟩
  | .local _ .vmem, ⟨8, _⟩ => ⟨S128x128, .bf16⟩
  | .local _ .vmem, ⟨9, _⟩ => ⟨S1x128, .bf16⟩
  | .local _ .vmem, ⟨10, _⟩ => ⟨S1x128, .bf16⟩
  | .local _ .vmem, ⟨11, _⟩ => ⟨S1x128, .bf16⟩
  | .local _ .vmem, ⟨12, _⟩ => ⟨S1x128, .bf16⟩
  | .local _ .vmem, ⟨13, _⟩ => ⟨S1x128, .bf16⟩
  | .local _ .vmem, ⟨14, _⟩ => ⟨S128x128, .f32⟩
  | .local _ .vmem, ⟨15, _⟩ => ⟨S128x128, .f32⟩
  | _, _ => ⟨S16384x20x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_v0 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x20x9 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x20x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "far" => some ⊤
  | "inv_sqrt2" => some ((11863283 / 16777216 : ℝ) : EReal)
  | _ => none
-- ==== ReferenceIdeal.lean ====
abbrev S16384x20x9 : Shape := ⟨3, ![16384, 20, 9]⟩
abbrev S9x128 : Shape := ⟨2, ![9, 128]⟩
abbrev S128 : Shape := ⟨1, ![128]⟩
abbrev S128x128 : Shape := ⟨2, ![128, 128]⟩
abbrev S16384x20x3 : Shape := ⟨3, ![16384, 20, 3]⟩
abbrev S16384x20x1x3 : Shape := ⟨4, ![16384, 20, 1, 3]⟩
abbrev S16384x1x20x3 : Shape := ⟨4, ![16384, 1, 20, 3]⟩
abbrev S16384x20x20x3 : Shape := ⟨4, ![16384, 20, 20, 3]⟩
abbrev S_ : Shape := ⟨0, ![]⟩
abbrev S16384x20x20 : Shape := ⟨3, ![16384, 20, 20]⟩
abbrev S16384x20x5 : Shape := ⟨3, ![16384, 20, 5]⟩
abbrev S16384 : Shape := ⟨1, ![16384]⟩
abbrev S16384x1x1 : Shape := ⟨3, ![16384, 1, 1]⟩
abbrev S20 : Shape := ⟨1, ![20]⟩
abbrev S1x20x1 : Shape := ⟨3, ![1, 20, 1]⟩
abbrev S16384x20x5x1 : Shape := ⟨4, ![16384, 20, 5, 1]⟩
abbrev S16384x20x5x3 : Shape := ⟨4, ![16384, 20, 5, 3]⟩
abbrev S16384x20x128 : Shape := ⟨3, ![16384, 20, 128]⟩
abbrev S1x1x128 : Shape := ⟨3, ![1, 1, 128]⟩
abbrev S16384x20 : Shape := ⟨2, ![16384, 20]⟩
abbrev S16384x20x1 : Shape := ⟨3, ![16384, 20, 1]⟩
abbrev S16384x128 : Shape := ⟨2, ![16384, 128]⟩

abbrev nBuf : Space → Nat
  | .hbm => 156
  | .vmem => 0
  | .smem => 0
  | _ => 0

abbrev hbmTy0_0 (i : Nat) : BufTy := match i % 128 with
  | 0 => ⟨S16384x20x9, .f32⟩
  | 1 => ⟨S9x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S128, .f32⟩
  | 10 => ⟨S128, .f32⟩
  | 11 => ⟨S16384x20x3, .f32⟩
  | 12 => ⟨S16384x20x1x3, .f32⟩
  | 13 => ⟨S16384x1x20x3, .f32⟩
  | 14 => ⟨S16384x20x20x3, .f32⟩
  | 15 => ⟨S16384x20x20x3, .f32⟩
  | 16 => ⟨S16384x20x20x3, .f32⟩
  | 17 => ⟨S16384x20x20x3, .f32⟩
  | 18 => ⟨S_, .f32⟩
  | 19 => ⟨S16384x20x20, .f32⟩
  | 20 => ⟨S_, .f32⟩
  | 21 => ⟨S16384x20x20, .f32⟩
  | 22 => ⟨S16384x20x20, .f32⟩
  | 23 => ⟨S16384x20x20, .f32⟩
  | 24 => ⟨S16384x20x20, .f32⟩
  | 25 => ⟨S16384x20x5, .f32⟩
  | 26 => ⟨S16384x20x5, .i32⟩
  | 27 => ⟨S_, .f32⟩
  | 28 => ⟨S16384x20x20, .f32⟩
  | 29 => ⟨S16384, .i32⟩
  | 30 => ⟨S16384x1x1, .i32⟩
  | 31 => ⟨S20, .i32⟩
  | 32 => ⟨S1x20x1, .i32⟩
  | 33 => ⟨S_, .i32⟩
  | 34 => ⟨S16384x1x1, .i32⟩
  | 35 => ⟨S16384x1x1, .i1⟩
  | 36 => ⟨S_, .i32⟩
  | 37 => ⟨S16384x1x1, .i32⟩
  | 38 => ⟨S16384x1x1, .i32⟩
  | 39 => ⟨S16384x1x1, .i32⟩
  | 40 => ⟨S_, .i32⟩
  | 41 => ⟨S1x20x1, .i32⟩
  | 42 => ⟨S1x20x1, .i1⟩
  | 43 => ⟨S_, .i32⟩
  | 44 => ⟨S1x20x1, .i32⟩
  | 45 => ⟨S1x20x1, .i32⟩
  | 46 => ⟨S1x20x1, .i32⟩
  | 47 => ⟨S_, .i32⟩
  | 48 => ⟨S16384x20x5, .i32⟩
  | 49 => ⟨S16384x20x5, .i1⟩
  | 50 => ⟨S_, .i32⟩
  | 51 => ⟨S16384x20x5, .i32⟩
  | 52 => ⟨S16384x20x5, .i32⟩
  | 53 => ⟨S16384x20x5, .i32⟩
  | 54 => ⟨S16384x20x5, .i32⟩
  | 55 => ⟨S16384x20x5, .i32⟩
  | 56 => ⟨S16384x20x5x1, .i32⟩
  | 57 => ⟨S16384x20x5x1, .i32⟩
  | 58 => ⟨S16384x20x5x1, .i32⟩
  | 59 => ⟨S16384x20x5x3, .i32⟩
  | 60 => ⟨S_, .f32⟩
  | 61 => ⟨S16384x20x5, .f32⟩
  | 62 => ⟨S16384x20x20, .f32⟩
  | 63 => ⟨S16384x20x128, .f32⟩
  | 64 => ⟨S1x1x128, .f32⟩
  | 65 => ⟨S16384x20x128, .f32⟩
  | 66 => ⟨S16384x20x128, .f32⟩
  | 67 => ⟨S16384x20x128, .f32⟩
  | 68 => ⟨S16384x20x128, .f32⟩
  | 69 => ⟨S1x1x128, .f32⟩
  | 70 => ⟨S16384x20x128, .f32⟩
  | 71 => ⟨S16384x20x128, .f32⟩
  | 72 => ⟨S_, .f32⟩
  | 73 => ⟨S16384x20, .f32⟩
  | 74 => ⟨S16384x20x1, .f32⟩
  | 75 => ⟨S_, .f32⟩
  | 76 => ⟨S16384x20x1, .f32⟩
  | 77 => ⟨S16384x20x1, .f32⟩
  | 78 => ⟨S16384x20x128, .f32⟩
  | 79 => ⟨S16384x20x128, .f32⟩
  | 80 => ⟨S16384x20x128, .f32⟩
  | 81 => ⟨S_, .f32⟩
  | 82 => ⟨S16384x20, .f32⟩
  | 83 => ⟨S16384x20x1, .f32⟩
  | 84 => ⟨S_, .f32⟩
  | 85 => ⟨S16384x20x1, .f32⟩
  | 86 => ⟨S16384x20x1, .f32⟩
  | 87 => ⟨S16384x20x128, .f32⟩
  | 88 => ⟨S16384x20x128, .f32⟩
  | 89 => ⟨S_, .f32⟩
  | 90 => ⟨S16384x20x1, .f32⟩
  | 91 => ⟨S16384x20x1, .f32⟩
  | 92 => ⟨S16384x20x1, .f32⟩
  | 93 => ⟨S16384x20x128, .f32⟩
  | 94 => ⟨S16384x20x128, .f32⟩
  | 95 => ⟨S1x1x128, .f32⟩
  | 96 => ⟨S16384x20x128, .f32⟩
  | 97 => ⟨S16384x20x128, .f32⟩
  | 98 => ⟨S1x1x128, .f32⟩
  | 99 => ⟨S16384x20x128, .f32⟩
  | 100 => ⟨S16384x20x128, .f32⟩
  | 101 => ⟨S_, .f32⟩
  | 102 => ⟨S16384x20x128, .f32⟩
  | 103 => ⟨S16384x20x128, .f32⟩
  | 104 => ⟨S16384x20x128, .f32⟩
  | 105 => ⟨S_, .f32⟩
  | 106 => ⟨S16384x20x128, .f32⟩
  | 107 => ⟨S16384x20x128, .f32⟩
  | 108 => ⟨S16384x20x128, .f32⟩
  | 109 => ⟨S16384x20x128, .f32⟩
  | 110 => ⟨S16384x20x128, .f32⟩
  | 111 => ⟨S16384x20x128, .f32⟩
  | 112 => ⟨S1x1x128, .f32⟩
  | 113 => ⟨S16384x20x128, .f32⟩
  | 114 => ⟨S16384x20x128, .f32⟩
  | 115 => ⟨S_, .f32⟩
  | 116 => ⟨S16384x20, .f32⟩
  | 117 => ⟨S16384x20x1, .f32⟩
  | 118 => ⟨S_, .f32⟩
  | 119 => ⟨S16384x20x1, .f32⟩
  | 120 => ⟨S16384x20x1, .f32⟩
  | 121 => ⟨S16384x20x128, .f32⟩
  | 122 => ⟨S16384x20x128, .f32⟩
  | 123 => ⟨S16384x20x128, .f32⟩
  | 124 => ⟨S_, .f32⟩
  | 125 => ⟨S16384x20, .f32⟩
  | 126 => ⟨S16384x20x1, .f32⟩
  | 127 => ⟨S_, .f32⟩
  | _ => ⟨S16384x20x9, .f32⟩

abbrev hbmTy0_1 (i : Nat) : BufTy := match i % 128 with
  | 0 => ⟨S16384x20x1, .f32⟩
  | 1 => ⟨S16384x20x1, .f32⟩
  | 2 => ⟨S16384x20x128, .f32⟩
  | 3 => ⟨S16384x20x128, .f32⟩
  | 4 => ⟨S_, .f32⟩
  | 5 => ⟨S16384x20x1, .f32⟩
  | 6 => ⟨S16384x20x1, .f32⟩
  | 7 => ⟨S16384x20x1, .f32⟩
  | 8 => ⟨S16384x20x128, .f32⟩
  | 9 => ⟨S16384x20x128, .f32⟩
  | 10 => ⟨S1x1x128, .f32⟩
  | 11 => ⟨S16384x20x128, .f32⟩
  | 12 => ⟨S16384x20x128, .f32⟩
  | 13 => ⟨S1x1x128, .f32⟩
  | 14 => ⟨S16384x20x128, .f32⟩
  | 15 => ⟨S16384x20x128, .f32⟩
  | 16 => ⟨S16384x20x128, .f32⟩
  | 17 => ⟨S_, .f32⟩
  | 18 => ⟨S16384x20x128, .f32⟩
  | 19 => ⟨S16384x20x128, .f32⟩
  | 20 => ⟨S16384x20x128, .f32⟩
  | 21 => ⟨S_, .f32⟩
  | 22 => ⟨S16384x20x128, .f32⟩
  | 23 => ⟨S16384x20x128, .f32⟩
  | 24 => ⟨S16384x20x128, .f32⟩
  | 25 => ⟨S16384x20x128, .f32⟩
  | 26 => ⟨S_, .f32⟩
  | 27 => ⟨S16384x128, .f32⟩
  | _ => ⟨S16384x20x9, .f32⟩

abbrev hbmTy (i : Nat) : BufTy := match i / 128 with
  | 0 => hbmTy0_0 i
  | 1 => hbmTy0_1 i
  | _ => ⟨S16384x20x9, .f32⟩

abbrev bufTy : (tb : Table) → Fin (tcTables nBuf tb) → BufTy
  | .hbm, ⟨i, _⟩ => hbmTy i
  | _, _ => ⟨S16384x20x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_values : Ref sig .tc := ⟨.hbm, 25, rfl⟩
abbrev main_indices : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_13 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_15 : Ref sig .tc := ⟨.hbm, 115, rfl⟩
abbrev main_v85 : Ref sig .tc := ⟨.hbm, 116, rfl⟩
abbrev main_v86 : Ref sig .tc := ⟨.hbm, 117, rfl⟩
abbrev main_cst_16 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_17 : Ref sig .tc := ⟨.hbm, 124, rfl⟩
abbrev main_v92 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_19 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_20 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_21 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_22 : Ref sig .tc := ⟨.hbm, 154, rfl⟩
abbrev main_v117 : Ref sig .tc := ⟨.hbm, 155, rfl⟩

abbrev nD : Nat := 1
abbrev τ : Topo := Topo.v7x

variable {F : FTy → Type} [FloatOps F]
-- ==== Proof.Spec.lean ====
/-
  One graph of the network, over the extended reals.
  A graph has 20 nodes; a node has 9 features, the last three of them its position. Both programs compute the same
  network and differ in three places: how a row is normalised, how the activation is written, and how the 0/1 matrix of
  nearest neighbours is found. `network` takes those three as parameters, so that each program is an instance of it.
-/
module

public import Idealize.ShloMosaic.Lib.Pointwise
public import Idealize.ShloMosaic.PureOps.Ideal.Laws

@[expose] public section

noncomputable section

namespace Cert.Proof

open Idealize.ShloMosaic

/-- The row of 128 hidden features of one node. -/
abbrev Feat := Fin 128 → EReal

/-- The 20 nodes' features. -/
abbrev Nodes (n : ℕ) := Fin 20 → Fin n → EReal

/-- A dense layer on every node: `x · W + b`. -/
def dense {n : ℕ} (W : Fin n → Feat) (b : Feat) (x : Nodes n) : Nodes 128 :=
  fun i d => (∑ k, x i k * W k d) + b d

/-- The sum of the neighbours' features, `A` being the 0/1 matrix of neighbours. -/
def gather (A : Nodes 20) (h : Nodes 128) : Nodes 128 :=
  fun i d => ∑ j, A i j * h j d

/-- The mean of the 128 features of a node. -/
def mean (r : Feat) : EReal := Ideal.div (∑ d, r d) ((128 : ℝ) : EReal)

/-- The small number added to a variance: 1e-5 rounded to a 32-bit float. -/
def eps : EReal := Ideal.ofBits .f32 0x3727C5AC#32

/-- One half. -/
def half : EReal := ((1 / 2 : ℝ) : EReal)

/-- The 32-bit float nearest to `1/√2`, the number the reference's activation multiplies by. -/
def invSqrt2 : EReal := ((11863283 / 16777216 : ℝ) : EReal)

/-- The kernel's normalisation of a row: the variance as the mean of the squares less the squared mean, and the
    reciprocal root multiplied into the gain first. -/
def normK (g b : Feat) (r : Feat) : Feat :=
  fun d => (r d - mean r) * (Ideal.rsqrt (mean (fun k => r k * r k) - mean r * mean r + eps) * g d) + b d

/-- The reference's normalisation of a row: the variance as the mean of the squared differences, and a division by its
    root. -/
def normR (g b : Feat) (r : Feat) : Feat :=
  fun d => Ideal.div (r d - mean r) (Ideal.sqrt (mean (fun k => (r k - mean r) * (r k - mean r)) + eps)) * g d + b d

/-- The kernel's activation, by the error function. -/
def geluK (x : EReal) : EReal := half * x * (1 + Ideal.erf (x * invSqrt2))

/-- The reference's activation, by the complementary error function. -/
def geluR (x : EReal) : EReal := half * x * Ideal.erfc (-x * invSqrt2)

/-- The parameters of the network. -/
structure Params where
  We : Fin 9 → Feat
  be : Feat
  W1 : Fin 128 → Feat
  b1 : Feat
  W2 : Fin 128 → Feat
  b2 : Feat
  g1 : Feat
  t1 : Feat
  g2 : Feat
  t2 : Feat

/-- The first layer before its normalisation: embed, gather, transform. -/
def layer1 (A : Nodes 20) (p : Params) (x : Nodes 9) : Nodes 128 :=
  dense p.W1 p.b1 (gather A (dense p.We p.be x))

/-- The first layer's result, with the normalisation and the activation given. -/
def hidden (norm : Feat → Feat → Feat → Feat) (gelu : EReal → EReal) (A : Nodes 20) (p : Params) (x : Nodes 9) : Nodes 128 :=
  fun i d => gelu (norm p.g1 p.t1 (layer1 A p x i) d)

/-- The second layer before its normalisation. -/
def layer2 (A : Nodes 20) (p : Params) (h : Nodes 128) : Nodes 128 := dense p.W2 p.b2 (gather A h)

/-- The second layer's result added to its argument, and activated. -/
def residual (norm : Feat → Feat → Feat → Feat) (gelu : EReal → EReal) (A : Nodes 20) (p : Params) (h : Nodes 128) : Nodes 128 :=
  fun i d => gelu (h i d + norm p.g2 p.t2 (layer2 A p h i) d)

/-- The greatest value of every feature over the 20 nodes, started from `⊥`. -/
def greatest (h : Nodes 128) : Feat := fun d => Finset.fold max ⊥ (fun i => h i d) Finset.univ

/-- The whole network on one graph. -/
def network (norm : Feat → Feat → Feat → Feat) (gelu : EReal → EReal) (A : Nodes 20) (p : Params) (x : Nodes 9) : Feat :=
  greatest (residual norm gelu A p (hidden norm gelu A p x))

end Cert.Proof

end
-- ==== Proof.Neighbours.lean ====
/-
  The five nearest neighbours of one node, from the row of its 20 squared distances.
  The kernel takes the least value of the row off it four times and compares with the least value left, so that a node
  is a neighbour when fewer than five distinct values of the row are below its own. The reference sorts the row and takes
  the first five places. Where no two of the five nearest nodes lie equally far (and none of them as far as a later one),
  both take exactly the nodes that fewer than five nodes are nearer than.
-/
module

public import proofs.«01_k».proof.Proof.Spec
public import Idealize.ShloMosaic.Lib.SortFacts

@[expose] public section

noncomputable section

namespace Cert.Proof

open Idealize.ShloMosaic

/-- The least value of a row, as the kernel folds it, started from `⊤`. -/
def least (w : Fin 20 → EReal) : EReal := Finset.fold min ⊤ w Finset.univ

/-- The row with its least values put out of the way, at `⊤`. -/
def takeOff (w : Fin 20 → EReal) : Fin 20 → EReal := fun j => if w j ≤ least w then ⊤ else w j

/-- The value the kernel compares with: the least one left after four rounds. -/
def threshold (d : Fin 20 → EReal) : EReal := least (takeOff (takeOff (takeOff (takeOff d))))

theorem le_least (w : Fin 20 → EReal) (x : EReal) : x ≤ least w ↔ ∀ k, x ≤ w k := by
  unfold least
  rw [Finset.le_fold_min]
  simp

theorem least_le (w : Fin 20 → EReal) (k : Fin 20) : least w ≤ w k := (le_least w _).1 le_rfl k

/-- How many distinct values of the row are below node `j`'s. -/
def below (d : Fin 20 → EReal) (j : Fin 20) : ℕ := ((Finset.univ.image d).filter (· < d j)).card

/-- How many nodes lie nearer than node `j`. -/
def rank (d : Fin 20 → EReal) (j : Fin 20) : ℕ := (Finset.univ.filter fun l => d l < d j).card

theorem below_mono (d : Fin 20 → EReal) {j k : Fin 20} (h : d j ≤ d k) : below d j ≤ below d k := by
  refine Finset.card_le_card fun v hv => ?_
  rw [Finset.mem_filter] at hv ⊢
  exact ⟨hv.1, hv.2.trans_le h⟩

theorem below_strict (d : Fin 20 → EReal) {j k : Fin 20} (h : d j < d k) : below d j < below d k := by
  refine Finset.card_lt_card (Finset.ssubset_iff_of_subset (fun v hv => ?_) |>.2 ⟨d j, ?_, ?_⟩)
  · rw [Finset.mem_filter] at hv ⊢
    exact ⟨hv.1, hv.2.trans h⟩
  · rw [Finset.mem_filter]; exact ⟨Finset.mem_image_of_mem _ (Finset.mem_univ _), h⟩
  · rw [Finset.mem_filter]; exact fun hh => lt_irrefl _ hh.2

/-- Below a node that has `t + 1` distinct values below it lies a node that has `t`. -/
theorem exists_below (d : Fin 20 → EReal) (j : Fin 20) (t : ℕ) (h : t < below d j) : ∃ k, d k < d j ∧ t ≤ below d k := by
  have hne : ((Finset.univ.image d).filter (· < d j)).Nonempty := Finset.card_pos.1 (by unfold below at h; omega)
  set B := (Finset.univ.image d).filter (· < d j) with hB
  obtain ⟨hm, hlt⟩ := Finset.mem_filter.1 (B.max'_mem hne)
  obtain ⟨k, -, hk⟩ := Finset.mem_image.1 hm
  refine ⟨k, hk ▸ hlt, ?_⟩
  have hsub : B.erase (d k) ⊆ (Finset.univ.image d).filter (· < d k) := fun v hv => by
    rw [Finset.mem_erase] at hv
    rw [Finset.mem_filter]
    exact ⟨(Finset.mem_filter.1 hv.2).1, lt_of_le_of_ne (hk ▸ B.le_max' v hv.2) hv.1⟩
  have hc := Finset.card_le_card hsub
  rw [Finset.card_erase_of_mem (hk ▸ B.max'_mem hne)] at hc
  change t < B.card at h
  change t ≤ ((Finset.univ.image d).filter (· < d k)).card
  omega

/-- If the row is at `⊤` where fewer than `t` distinct values are below and as given elsewhere, then the nodes not past its least
    value are those with at most `t` distinct values below. -/
theorem le_least_iff (d w : Fin 20 → EReal) (t : ℕ) (hw : ∀ j, w j = if below d j < t then ⊤ else d j) (j : Fin 20) :
    d j ≤ least w ↔ below d j ≤ t := by
  constructor
  · intro h
    by_contra hlt
    obtain ⟨k, hk, hkt⟩ := exists_below d j t (not_le.1 hlt)
    have := (le_least w _).1 h k
    rw [hw k, if_neg (not_lt.2 hkt)] at this
    exact absurd this (not_le.2 hk)
  · intro h
    refine (le_least w _).2 fun k => ?_
    rw [hw k]
    split
    · exact le_top
    · next hk =>
      by_contra hlt
      have := below_strict d (not_le.1 hlt)
      omega

/-- One round keeps that form, with `t + 1`. -/
theorem takeOff_form (d w : Fin 20 → EReal) (t : ℕ) (hw : ∀ j, w j = if below d j < t then ⊤ else d j) (j : Fin 20) :
    takeOff w j = if below d j < t + 1 then ⊤ else d j := by
  unfold takeOff
  by_cases h : below d j < t
  · rw [hw j, if_pos h, if_pos (show below d j < t + 1 by omega), ite_self]
  · have hj : w j = d j := by rw [hw j, if_neg h]
    rw [hj]
    refine if_congr ?_ rfl rfl
    rw [le_least_iff d w t hw j]
    omega

/-- The kernel takes the nodes with fewer than five distinct values below. -/
theorem le_threshold_iff (d : Fin 20 → EReal) (j : Fin 20) : d j ≤ threshold d ↔ below d j < 5 := by
  have h0 : ∀ j, d j = if below d j < 0 then ⊤ else d j := fun j => by simp
  have h4 := takeOff_form d _ 3 (takeOff_form d _ 2 (takeOff_form d _ 1 (takeOff_form d _ 0 h0)))
  rw [threshold, le_least_iff d _ 4 h4 j]
  omega

/-- No two nodes lie equally far, unless at least five nodes are nearer than both. -/
def Distinct (d : Fin 20 → EReal) : Prop := ∀ j k, d j ≠ d k ∨ j = k ∨ 5 ≤ rank d j

theorem below_le_rank (d : Fin 20 → EReal) (j : Fin 20) : below d j ≤ rank d j := by
  unfold below rank
  refine (Finset.card_le_card (t := (Finset.univ.filter fun l => d l < d j).image d) fun v hv => ?_).trans Finset.card_image_le
  obtain ⟨hm, hlt⟩ := Finset.mem_filter.1 hv
  obtain ⟨k, -, rfl⟩ := Finset.mem_image.1 hm
  exact Finset.mem_image_of_mem _ (Finset.mem_filter.2 ⟨Finset.mem_univ _, hlt⟩)

/-- Where the five nearest are distinct, fewer than five distinct values below means fewer than five nodes nearer. -/
theorem below_lt_iff (d : Fin 20 → EReal) (hd : Distinct d) (j : Fin 20) : below d j < 5 ↔ rank d j < 5 := by
  refine ⟨fun h => ?_, fun h => (below_le_rank d j).trans_lt h⟩
  by_contra hj
  have hne : (Finset.univ.filter fun l => 5 ≤ rank d l).Nonempty := ⟨j, Finset.mem_filter.2 ⟨Finset.mem_univ _, not_lt.1 hj⟩⟩
  obtain ⟨m, hm, hmin⟩ := Finset.exists_min_image _ d hne
  have hm5 := (Finset.mem_filter.1 hm).2
  have hinj : Set.InjOn d (Finset.univ.filter fun l => d l < d m : Finset (Fin 20)) := fun a ha b _ hab => by
    have ha' := (Finset.mem_filter.1 (Finset.mem_coe.1 ha)).2
    rcases hd a b with h1 | h1 | h1
    · exact absurd hab h1
    · exact h1
    · exact absurd (hmin a (Finset.mem_filter.2 ⟨Finset.mem_univ _, h1⟩)) (not_le.2 ha')
  have hc : rank d m ≤ below d m := by
    unfold rank below
    rw [← Finset.card_image_of_injOn hinj]
    refine Finset.card_le_card fun v hv => ?_
    obtain ⟨k, hk, rfl⟩ := Finset.mem_image.1 hv
    exact Finset.mem_filter.2 ⟨Finset.mem_image_of_mem _ (Finset.mem_univ _), (Finset.mem_filter.1 hk).2⟩
  have := below_mono d (hmin j (Finset.mem_filter.2 ⟨Finset.mem_univ _, not_lt.1 hj⟩))
  omega

/-- The distances kept at or above a floor `c`. -/
def floored (c : EReal) (d : Fin 20 → EReal) : Fin 20 → EReal := fun j => max (d j) c

/-- Where the floored distances are distinct, the floor changes no comparison of two different nodes, nor of one with itself. -/
theorem floored_lt_iff (c : EReal) (d : Fin 20 → EReal) (hd : Distinct (floored c d)) (j k : Fin 20) :
    floored c d j < floored c d k ↔ d j < d k := by
  unfold floored
  constructor
  · intro h
    by_contra hh
    exact absurd h (not_lt.2 (max_le_max (not_lt.1 hh) le_rfl))
  · intro h
    by_cases hk : c < d k
    · exact max_lt_max_iff_of h hk
    · exfalso
      have hkc := not_lt.1 hk
      have hjc := h.le.trans hkc
      have hrank : rank (floored c d) j = 0 := by
        unfold rank
        rw [Finset.card_eq_zero, Finset.filter_eq_empty_iff]
        intro l _
        show ¬ max (d l) c < max (d j) c
        rw [max_eq_right hjc]
        exact not_lt.2 (le_max_right _ _)
      rcases hd j k with h1 | h1 | h1
      · exact h1 (by unfold floored; rw [max_eq_right hjc, max_eq_right hkc])
      · exact absurd h (h1 ▸ lt_irrefl _)
      · omega
where
  max_lt_max_iff_of {a b c : EReal} (h : a < b) (hc : c < b) : max a c < max b c :=
    (max_lt h hc).trans_le (le_max_left _ _)

/-- So the floored row ranks the nodes as the row itself. -/
theorem rank_floored (c : EReal) (d : Fin 20 → EReal) (hd : Distinct (floored c d)) (j : Fin 20) : rank (floored c d) j = rank d j := by
  unfold rank
  simp only [floored_lt_iff c d hd]

theorem distinct_of_floored (c : EReal) (d : Fin 20 → EReal) (hd : Distinct (floored c d)) : Distinct d := fun j k => by
  rcases hd j k with h | h | h
  · exact Or.inl fun e => h (by unfold floored; rw [e])
  · exact Or.inr (Or.inl h)
  · exact Or.inr (Or.inr (rank_floored c d hd j ▸ h))

/-- The kernel's choice of neighbours: the nodes that fewer than five nodes are nearer than. -/
theorem kernel_choice (c : EReal) (d : Fin 20 → EReal) (hd : Distinct (floored c d)) (j : Fin 20) :
    d j ≤ threshold d ↔ rank (floored c d) j < 5 := by
  rw [le_threshold_iff, below_lt_iff d (distinct_of_floored c d hd), rank_floored c d hd]

/-- An arrangement of the nodes in the order of their distances puts exactly those nodes in the first five places. -/
theorem sorted_choice (d : Fin 20 → EReal) (hd : Distinct d) (π : Fin 20 → Fin 20) (hinj : Function.Injective π) (hsurj : Function.Surjective π)
    (hs : ∀ a b : Fin 20, a < b → d (π a) ≤ d (π b)) (j : Fin 20) : (∃ q : Fin 20, q.val < 5 ∧ π q = j) ↔ rank d j < 5 := by
  constructor
  · rintro ⟨q, hq, rfl⟩
    have hsub : (Finset.univ.filter fun l => d l < d (π q)) ⊆ (Finset.univ.filter fun p : Fin 20 => p < q).image π := fun l hl => by
      obtain ⟨p, rfl⟩ := hsurj l
      refine Finset.mem_image_of_mem _ (Finset.mem_filter.2 ⟨Finset.mem_univ _, ?_⟩)
      by_contra hpq
      rcases (not_lt.1 hpq).lt_or_eq with h | h
      · exact absurd (Finset.mem_filter.1 hl).2 (not_lt.2 (hs _ _ h))
      · exact absurd (Finset.mem_filter.1 hl).2 (h ▸ lt_irrefl _)
    refine (Finset.card_le_card hsub).trans_lt (Finset.card_image_le.trans_lt ?_)
    rw [Finset.filter_gt_eq_Iio]
    simpa using hq
  · intro hj
    obtain ⟨q, rfl⟩ := hsurj j
    refine ⟨q, ?_, rfl⟩
    by_contra hq
    have hsub : (Finset.univ.filter fun p : Fin 20 => p < q).image π ⊆ Finset.univ.filter fun l => d l < d (π q) := fun l hl => by
      obtain ⟨p, hp, rfl⟩ := Finset.mem_image.1 hl
      have hpq := (Finset.mem_filter.1 hp).2
      refine Finset.mem_filter.2 ⟨Finset.mem_univ _, lt_of_le_of_ne (hs _ _ hpq) fun e => ?_⟩
      rcases hd (π q) (π p) with h | h | h
      · exact h e.symm
      · exact absurd (hinj h) hpq.ne'
      · omega
    have hc := Finset.card_le_card hsub
    rw [Finset.card_image_of_injective _ hinj, Finset.filter_gt_eq_Iio] at hc
    unfold rank at hj
    simp at hc
    omega

end Cert.Proof

end
-- ==== Proof.Inputs.lean ====
/-
  The eleven arrays the programs are launched on, read graph by graph: the nodes of a graph, their positions, and the
  weights, and the array the network makes of them.
-/
module

public import proofs.«01_k».proof.Proof.Neighbours
public import Idealize.ShloMosaic.Lib.Pointwise

@[expose] public section

noncomputable section

namespace Cert.Proof

open Idealize.ShloMosaic

/-- An array of extended reals with two or three axes, or a row of them. -/
abbrev Arr1 (a : ℕ) := (⟨1, ![a]⟩ : Shape).Idx → EReal
abbrev Arr2 (a b : ℕ) := (⟨2, ![a, b]⟩ : Shape).Idx → EReal
abbrev Arr3 (a b c : ℕ) := (⟨3, ![a, b, c]⟩ : Shape).Idx → EReal

/-- The features of the nodes of graph `g`. -/
def nodes (x : Arr3 16384 20 9) (g : Fin 16384) : Nodes 9 := fun i k => x (ix3 g i k)

/-- Coordinate `a` of node `i` of graph `g`: its feature `6 + a`. -/
def positions (x : Arr3 16384 20 9) (g : Fin 16384) : Fin 3 → Fin 20 → EReal :=
  fun a i => x (ix3 g i (⟨6 + a.val, by omega⟩ : Fin 9))

/-- The squared distance of nodes `i` and `j`, from the three coordinates of every node. -/
def sqdist (p : Fin 3 → Fin 20 → EReal) (i j : Fin 20) : EReal := ∑ c, (p c i - p c j) * (p c i - p c j)

/-- The weights as launched. -/
def weights (We : Arr2 9 128) (be : Arr1 128) (W1 : Arr2 128 128) (b1 : Arr1 128) (W2 : Arr2 128 128)
    (b2 g1 t1 g2 t2 : Arr1 128) : Params :=
  ⟨fun k c => We (ix2 k c), fun c => be (ix1 c), fun k c => W1 (ix2 k c), fun c => b1 (ix1 c), fun k c => W2 (ix2 k c),
    fun c => b2 (ix1 c), fun c => g1 (ix1 c), fun c => t1 (ix1 c), fun c => g2 (ix1 c), fun c => t2 (ix1 c)⟩

/-- The whole result: the network of every graph, with a given normalisation, activation and choice of neighbours. -/
def result (norm : Feat → Feat → Feat → Feat) (gelu : EReal → EReal) (adj : (Fin 3 → Fin 20 → EReal) → Nodes 20)
    (p : Params) (x : Arr3 16384 20 9) : Arr2 16384 128 :=
  fun j => network norm gelu (adj (positions x (j 0))) p (nodes x (j 0)) (j 1)

end Cert.Proof

end
-- ==== Proof.Body.lean ====
/-
  What the kernel's body computes for one graph of a block: each stored intermediate read at an index, as the
  corresponding step of `network` (Spec.lean).
-/
module

public import proofs.«01_k».proof.Proof.Gen.KernelIdeal.Skeleton
public import proofs.«01_k».proof.Proof.Gen.KernelIdeal.Frame
public import proofs.«01_k».proof.Proof.Inputs

@[expose] public section

noncomputable section

namespace Cert.Proof

open Idealize.ShloMosaic
open Cert.KernelIdeal Cert.KernelIdeal.Gen

/-! ## The constants -/

theorem bits_top_f32 : Ideal.ofBits FTy.f32 0x7F800000#32 = ⊤ := by simp [Ideal.ofBits, Ideal.ieee]

theorem bits_bot_bf16 : Ideal.ofBits FTy.bf16 0xFF80#16 = ⊥ := by simp [Ideal.ofBits, Ideal.ieee]

theorem bits_128_f32 : Ideal.ofBits FTy.f32 0x43000000#32 = ((128 : ℝ) : EReal) := by
  simp [Ideal.ofBits, Ideal.ieee, -EReal.coe_mul]; norm_num

theorem bits_half_bf16 : Ideal.ofBits FTy.bf16 0x3F00#16 = half := by
  unfold half; simp [Ideal.ofBits, Ideal.ieee, -EReal.coe_mul]; norm_num

theorem named_far : (Named.named κ "far" 0x7F61B1E6#32 : Ideal .f32) = ⊤ :=
  IdealRules.named_const.ideal_named_scalar _ _ _ _ rfl

theorem named_invSqrt2 : (Named.named κ "inv_sqrt2" 0x3F35#16 : Ideal .bf16) = invSqrt2 :=
  IdealRules.named_const.ideal_named_scalar _ _ _ _ rfl

/-- A comparison's bit widened and read as a number is one or zero. -/
theorem bit_to_float (p : Prop) [Decidable p] :
    (FloatOps.sitofp FTy.f32 (BitVec.setWidth 32 (BitVec.ofBool (decide p))) : Ideal .f32) = if p then 1 else 0 := by
  show (((BitVec.setWidth 32 (BitVec.ofBool (decide p))).toInt : ℝ) : EReal) = _
  by_cases h : p <;> simp [h]

/-! ## The neighbours -/

/-- The kernel's matrix of neighbours. -/
def adjK (p : Fin 3 → Fin 20 → EReal) : Nodes 20 := fun i j => if sqdist p i j ≤ threshold (sqdist p i) then 1 else 0

theorem pay2_apply (v0 : Vec Ideal S3x20x128 .f32) (i j : Fin 20) (b : Fin 128) :
    k0_pay2 (F := Ideal) v0 (ix3 i j b) = sqdist (fun c k => v0 (ix3 c k b)) i j := by
  pointwise [k0_pay2]
  simp [sqdist, Fin.sum_univ_three]

/-- Three rounds of taking off the least distances. -/
theorem pay3_apply (v0 : Vec Ideal S3x20x128 .f32) (i j : Fin 20) (b : Fin 128) :
    k0_pay3 (F := Ideal) v0 (ix3 i j b) = takeOff (takeOff (takeOff (fun j => k0_pay2 (F := Ideal) v0 (ix3 i j b)))) j := by
  unfold k0_pay3
  generalize k0_pay2 (F := Ideal) v0 = d
  pointwise
  simp only [bits_top_f32, named_far]
  rfl

/-- The 0/1 matrix: the fourth round, the least distance left, and the comparison with it. -/
theorem pay4_apply (d w : FVec Ideal S20x20x128 .f32) (i j : Fin 20) (b : Fin 128) :
    k0_pay4 (F := Ideal) d w (ix3 i j b) = if d (ix3 i j b) ≤ least (takeOff (fun j => w (ix3 i j b))) then 1 else 0 := by
  pointwise [k0_pay4]
  simp only [bits_top_f32, named_far, bit_to_float]
  rfl

/-- The matrix of neighbours of graph `b` of the block. -/
theorem adj_apply (v0 : Vec Ideal S3x20x128 .f32) (i j : Fin 20) (b : Fin 128) :
    k0_pay4 (F := Ideal) (k0_pay2 v0) (k0_pay3 v0) (ix3 i j b) = adjK (fun c k => v0 (ix3 c k b)) i j := by
  rw [pay4_apply]
  simp only [pay3_apply, pay2_apply]
  rfl

/-! ## The layers -/

/-- A block of 128 graphs of nodes, read as the nodes of graph `b`. -/
def graph {φ : FTy} (v : FVec Ideal S128x20x128 φ) (b : Fin 128) : Nodes 128 := fun i d => v (ix3 b i d)

/-- The first layer before its normalisation. -/
theorem pay5_apply (d w : FVec Ideal S20x20x128 .f32) (v61 : Vec Ideal S128x20x9 .bf16) (v63 : Vec Ideal S9x128 .bf16)
    (v66 : Vec Ideal S1x128 .bf16) (v75 : Vec Ideal S128x128 .bf16) (v78 : Vec Ideal S1x128 .bf16) (b : Fin 128) :
    graph (k0_pay5 (F := Ideal) d w v61 v63 v66 v75 v78) b
      = dense (fun k c => v75 (ix2 k c)) (fun c => v78 (ix2 0 c))
          (gather (fun i j => k0_pay4 (F := Ideal) d w (ix3 i j b))
            (dense (fun k c => v63 (ix2 k c)) (fun c => v66 (ix2 0 c)) (fun i k => v61 (ix3 b i k)))) := by
  funext i c
  unfold graph k0_pay5
  generalize k0_pay4 (F := Ideal) d w = A
  pointwise
  rfl

/-- The first layer's normalisation and activation. -/
theorem pay7_apply (v84 : FVec Ideal S128x20x128 .bf16) (v86 : FVec Ideal S1x128 .bf16) (v87 : Vec Ideal S1x128 .bf16) (b : Fin 128) :
    graph (k0_pay7 (F := Ideal) v84 v86 v87) b
      = fun i c => geluK (normK (fun c => v86 (ix2 0 c)) (fun c => v87 (ix2 0 c)) (graph v84 b i) c) := by
  funext i c
  unfold graph
  pointwise [k0_pay7]
  simp only [bits_128_f32, bits_half_bf16, named_invSqrt2]
  rfl

/-- The second gathering and product. -/
theorem pay8_apply (v60 : FVec Ideal S20x20x128 .bf16) (v84 : FVec Ideal S128x20x128 .bf16) (v86 : FVec Ideal S1x128 .bf16)
    (v87 : Vec Ideal S1x128 .bf16) (v128 : Vec Ideal S128x128 .bf16) (b : Fin 128) (i : Fin 20) (c : Fin 128) :
    k0_pay8 (F := Ideal) v60 v84 v86 v87 v128 (ix3 b i c)
      = ∑ k, gather (fun i j => v60 (ix3 i j b)) (graph (k0_pay7 (F := Ideal) v84 v86 v87) b) i k * v128 (ix2 k c) := by
  unfold k0_pay8 graph
  generalize k0_pay7 (F := Ideal) v84 v86 v87 = A
  pointwise
  rfl

/-- The second layer's shift, normalisation, addition to the first, activation, and the greatest over the nodes. -/
theorem pay10_apply (v125 : FVec Ideal S128x20x128 .bf16) (v130 : FVec Ideal S128x20x128 .f32) (v133 : FVec Ideal S1x128 .f32)
    (v138 : Vec Ideal S1x128 .bf16) (v140 : Vec Ideal S1x128 .bf16) (b : Fin 128) (c : Fin 128) :
    k0_pay10 (F := Ideal) v125 v130 v133 v138 v140 (ix2 b c)
      = greatest (fun i c => geluK (graph v125 b i c
          + normK (fun c => v138 (ix2 0 c)) (fun c => v140 (ix2 0 c)) (fun c => graph v130 b i c + v133 (ix2 0 c)) c)) c := by
  unfold graph
  pointwise [k0_pay10]
  simp only [bits_128_f32, bits_half_bf16, bits_bot_bf16, named_invSqrt2]
  rfl

/-! ## The whole body -/

theorem zeros2 : (![0, 0] : Fin 2 → ℕ) = fun _ => 0 := by decide

theorem zeros3 : (![0, 0, 0] : Fin 3 → ℕ) = fun _ => 0 := by decide

theorem pay1_apply (v : FVec Ideal S128x128 .bf16) (b c : Fin 128) : k0_pay1 (F := Ideal) v (ix2 b c) = v (ix2 b c) := by
  pointwise [k0_pay1]

/-- What the body stores for graph `b` of a block is the network of that graph's nodes. -/
theorem out_apply (x0 : Vec Ideal S128x20x9 .bf16) (x1 : Vec Ideal S3x20x128 .f32) (x2 : Vec Ideal S9x128 .bf16)
    (x3 : Vec Ideal S1x128 .bf16) (x4 : Vec Ideal S128x128 .bf16) (x5 : Vec Ideal S1x128 .bf16) (x6 : Vec Ideal S128x128 .bf16)
    (x7 x8 x9 x10 x11 : Vec Ideal S1x128 .bf16) (b c : Fin 128) :
    out0_12 (F := Ideal) x0 x1 x2 x3 x4 x5 x6 x7 x8 x9 x10 x11 (ix2 b c)
      = network normK geluK (adjK (fun c k => x1 (ix3 c k b)))
          ⟨fun k c => x2 (ix2 k c), fun c => x3 (ix2 0 c), fun k c => x4 (ix2 k c), fun c => x5 (ix2 0 c), fun k c => x6 (ix2 k c),
            fun c => x7 (ix2 0 c), fun c => x8 (ix2 0 c), fun c => x9 (ix2 0 c), fun c => x10 (ix2 0 c), fun c => x11 (ix2 0 c)⟩
          (fun i k => x0 (ix3 b i k)) c := by
  unfold out0_12 k0_pay14 k0_pay13 k0_pay12 k0_pay11
  rw [View.canon_unit_zero (S := S128x128) zeros2]
  simp only [View.ld_unit_zero (S := S1x128) zeros2, View.ld_unit_zero (S := S9x128) zeros2, View.ld_unit_zero (S := S128x128) zeros2,
    View.ld_unit_zero (S := S128x20x9) zeros3, View.ld_unit_zero (S := S3x20x128) zeros3]
  have hA : (fun i j => k0_pay4 (F := Ideal) (k0_pay2 x1) (k0_pay3 x1) (ix3 i j b)) = adjK (fun c k => x1 (ix3 c k b)) := by
    funext i j; exact adj_apply x1 i j b
  have h6 : k0_pay6 (F := Ideal) x8 = x8 := by funext i; pointwise [k0_pay6]
  have h9 : k0_pay9 (F := Ideal) x7 = x7 := by funext i; pointwise [k0_pay9]
  rw [h6, h9]
  rw [pay1_apply, pay10_apply]
  have h2 : ∀ i c, graph (k0_pay8 (F := Ideal) (k0_pay4 (k0_pay2 x1) (k0_pay3 x1)) (k0_pay5 (k0_pay2 x1) (k0_pay3 x1) x0 x2 x3 x4 x5) x8 x9 x6) b i c
      = ∑ k, gather (adjK (fun c k => x1 (ix3 c k b))) (graph (k0_pay7 (F := Ideal) (k0_pay5 (k0_pay2 x1) (k0_pay3 x1) x0 x2 x3 x4 x5) x8 x9) b) i k * x6 (ix2 k c) := by
    intro i c
    rw [← hA]
    exact pay8_apply _ _ _ _ _ b i c
  simp only [h2, pay7_apply, pay5_apply, hA]
  rfl

end Cert.Proof

end
-- ==== Proof.Array.lean ====
/-
  What the kernel's result array holds after the run: the operands as the host prepares them, their blocks at each
  grid point, and the array the blocks written back make.
-/
module

public import proofs.«01_k».proof.Proof.Body
public import Idealize.ShloMosaic.Lib.Pipeline.ValueKit.Geometry

@[expose] public section

noncomputable section

namespace Cert.Proof

open Idealize.ShloMosaic Idealize.SL Idealize.ShloMosaic.StableHlo
open Cert.KernelIdeal Cert.KernelIdeal.Gen

variable (m : (ℓ : Loc nD τ sig) → Buf (Elt Ideal) ℓ) (c : Dev nD)

/-! ## The operands as the host prepares them -/

theorem entry_positions (a : Fin 3) (i : Fin 20) (g : Fin 16384) :
    V (F := Ideal) m c main_call0_v1 (ix3 a i g) = positions (m ((c.tc : Thread nD τ).loc main_arg0)) g a i := by
  unfold V
  after_results
  show transpose S3x20x16384 [2, 1, 0] (extractStridedSlice S16384x20x3 ![0, 0, 6] (m ((c.tc : Thread nD τ).loc main_arg0)) slices_S16384x20x9_S16384x20x3_0_0_6) transposes_S16384x20x3_S3x20x16384_2_1_0 (ix3 a i g) = _
  pointwise
  rfl

theorem entry_nodes : V (F := Ideal) m c main_call0_v2 = m ((c.tc : Thread nD τ).loc main_arg0) := by
  unfold V
  after_results
  rfl

theorem entry_We : V (F := Ideal) m c main_call0_v3 = m ((c.tc : Thread nD τ).loc main_arg1) := by
  unfold V
  after_results
  rfl

theorem entry_W1 : V (F := Ideal) m c main_call0_v6 = m ((c.tc : Thread nD τ).loc main_arg3) := by
  unfold V
  after_results
  rfl

theorem entry_W2 : V (F := Ideal) m c main_call0_v9 = m ((c.tc : Thread nD τ).loc main_arg5) := by
  unfold V
  after_results
  rfl

/-- A row of 128 entries laid out as one row of a matrix. -/
theorem row_apply (v : Arr1 128) (a : Fin 1) (i : Fin 128) : shapeCast S1x128 v shapeCasts_S128_S1x128 (ix2 a i) = v (ix1 i) := by
  pointwise

theorem entry_be (a : Fin 1) (i : Fin 128) : V (F := Ideal) m c main_call0_v5 (ix2 a i) = m ((c.tc : Thread nD τ).loc main_arg2) (ix1 i) := by
  unfold V
  after_results
  exact row_apply _ a i

theorem entry_b1 (a : Fin 1) (i : Fin 128) : V (F := Ideal) m c main_call0_v8 (ix2 a i) = m ((c.tc : Thread nD τ).loc main_arg4) (ix1 i) := by
  unfold V
  after_results
  exact row_apply _ a i

theorem entry_b2 (a : Fin 1) (i : Fin 128) : V (F := Ideal) m c main_call0_v11 (ix2 a i) = m ((c.tc : Thread nD τ).loc main_arg6) (ix1 i) := by
  unfold V
  after_results
  exact row_apply _ a i

theorem entry_g1 (a : Fin 1) (i : Fin 128) : V (F := Ideal) m c main_call0_v13 (ix2 a i) = m ((c.tc : Thread nD τ).loc main_arg7) (ix1 i) := by
  unfold V
  after_results
  exact row_apply _ a i

theorem entry_t1 (a : Fin 1) (i : Fin 128) : V (F := Ideal) m c main_call0_v15 (ix2 a i) = m ((c.tc : Thread nD τ).loc main_arg8) (ix1 i) := by
  unfold V
  after_results
  exact row_apply _ a i

theorem entry_g2 (a : Fin 1) (i : Fin 128) : V (F := Ideal) m c main_call0_v17 (ix2 a i) = m ((c.tc : Thread nD τ).loc main_arg9) (ix1 i) := by
  unfold V
  after_results
  exact row_apply _ a i

theorem entry_t2 (a : Fin 1) (i : Fin 128) : V (F := Ideal) m c main_call0_v19 (ix2 a i) = m ((c.tc : Thread nD τ).loc main_arg10) (ix1 i) := by
  unfold V
  after_results
  exact row_apply _ a i

/-! ## The blocks -/

/-- Graph `b` of the block at grid point `t`. -/
def at_ (t : Fin cfg0.N) (b : Fin 128) : Fin 16384 :=
  ⟨t.val * 128 + b.val, by have := t.isLt; have h : cfg0.N = 128 := N_0; omega⟩

theorem index_0 : ∀ t : Fin cfg0.N, win0_0.index t = ![t.val, 0, 0] :=
  (by decide +kernel : ∀ t : Fin grid0.N, win0_0.index t = ![t.val, 0, 0])

theorem index_1 : ∀ t : Fin cfg0.N, win0_1.index t = ![0, 0, t.val] :=
  (by decide +kernel : ∀ t : Fin grid0.N, win0_1.index t = ![0, 0, t.val])

theorem index_12 : ∀ t : Fin cfg0.N, win0_12.index t = ![t.val, 0] :=
  (by decide +kernel : ∀ t : Fin grid0.N, win0_12.index t = ![t.val, 0])

theorem index_2 : ∀ t : Fin cfg0.N, win0_2.index t = ![0, 0] :=
  (by decide +kernel : ∀ t : Fin grid0.N, win0_2.index t = ![0, 0])

theorem index_3 : ∀ t : Fin cfg0.N, win0_3.index t = ![0, 0] :=
  (by decide +kernel : ∀ t : Fin grid0.N, win0_3.index t = ![0, 0])

theorem index_4 : ∀ t : Fin cfg0.N, win0_4.index t = ![0, 0] :=
  (by decide +kernel : ∀ t : Fin grid0.N, win0_4.index t = ![0, 0])

theorem index_5 : ∀ t : Fin cfg0.N, win0_5.index t = ![0, 0] :=
  (by decide +kernel : ∀ t : Fin grid0.N, win0_5.index t = ![0, 0])

theorem index_6 : ∀ t : Fin cfg0.N, win0_6.index t = ![0, 0] :=
  (by decide +kernel : ∀ t : Fin grid0.N, win0_6.index t = ![0, 0])

theorem index_7 : ∀ t : Fin cfg0.N, win0_7.index t = ![0, 0] :=
  (by decide +kernel : ∀ t : Fin grid0.N, win0_7.index t = ![0, 0])

theorem index_8 : ∀ t : Fin cfg0.N, win0_8.index t = ![0, 0] :=
  (by decide +kernel : ∀ t : Fin grid0.N, win0_8.index t = ![0, 0])

theorem index_9 : ∀ t : Fin cfg0.N, win0_9.index t = ![0, 0] :=
  (by decide +kernel : ∀ t : Fin grid0.N, win0_9.index t = ![0, 0])

theorem index_10 : ∀ t : Fin cfg0.N, win0_10.index t = ![0, 0] :=
  (by decide +kernel : ∀ t : Fin grid0.N, win0_10.index t = ![0, 0])

theorem index_11 : ∀ t : Fin cfg0.N, win0_11.index t = ![0, 0] :=
  (by decide +kernel : ∀ t : Fin grid0.N, win0_11.index t = ![0, 0])

theorem block_nodes (t : Fin cfg0.N) (b : Fin 128) (i : Fin 20) (k : Fin 9) :
    iblk (F := Ideal) m c 0 t (ix3 b i k) = nodes (m ((c.tc : Thread nD τ).loc main_arg0)) (at_ t b) i k := by
  blk_simp [iblk]
  rw [entry_nodes]
  have e : (win0_0.blk t).view.emb (ix3 b i k) = ix3 (at_ t b) i k := by
    funext a
    fin_cases a <;> apply Fin.ext <;> blk_simp [index_0] <;> simp [ix3, at_]
  exact congrArg _ e

theorem block_positions (t : Fin cfg0.N) (a : Fin 3) (i : Fin 20) (b : Fin 128) :
    iblk (F := Ideal) m c 1 t (ix3 a i b) = positions (m ((c.tc : Thread nD τ).loc main_arg0)) (at_ t b) a i := by
  rw [← entry_positions]
  blk_simp [iblk]
  have e : (win0_1.blk t).view.emb (ix3 a i b) = ix3 a i (at_ t b) := by
    funext a
    fin_cases a <;> apply Fin.ext <;> blk_simp [index_1] <;> simp [ix3, at_]
  exact congrArg _ e

/-! Every other operand is one block, read whole at every point. -/

theorem block_We (t : Fin cfg0.N) (k : Fin 9) (i : Fin 128) :
    iblk (F := Ideal) m c 2 t (ix2 k i) = m ((c.tc : Thread nD τ).loc main_arg1) (ix2 k i) := by
  rw [← entry_We m c]
  blk_simp [iblk]
  exact congrArg _ (by blk_ext [index_2])

theorem block_be (t : Fin cfg0.N) (a : Fin 1) (i : Fin 128) :
    iblk (F := Ideal) m c 3 t (ix2 a i) = m ((c.tc : Thread nD τ).loc main_arg2) (ix1 i) := by
  rw [← entry_be m c a i]
  blk_simp [iblk]
  exact congrArg _ (by blk_ext [index_3])

theorem block_W1 (t : Fin cfg0.N) (k : Fin 128) (i : Fin 128) :
    iblk (F := Ideal) m c 4 t (ix2 k i) = m ((c.tc : Thread nD τ).loc main_arg3) (ix2 k i) := by
  rw [← entry_W1 m c]
  blk_simp [iblk]
  exact congrArg _ (by blk_ext [index_4])

theorem block_b1 (t : Fin cfg0.N) (a : Fin 1) (i : Fin 128) :
    iblk (F := Ideal) m c 5 t (ix2 a i) = m ((c.tc : Thread nD τ).loc main_arg4) (ix1 i) := by
  rw [← entry_b1 m c a i]
  blk_simp [iblk]
  exact congrArg _ (by blk_ext [index_5])

theorem block_W2 (t : Fin cfg0.N) (k : Fin 128) (i : Fin 128) :
    iblk (F := Ideal) m c 6 t (ix2 k i) = m ((c.tc : Thread nD τ).loc main_arg5) (ix2 k i) := by
  rw [← entry_W2 m c]
  blk_simp [iblk]
  exact congrArg _ (by blk_ext [index_6])

theorem block_b2 (t : Fin cfg0.N) (a : Fin 1) (i : Fin 128) :
    iblk (F := Ideal) m c 7 t (ix2 a i) = m ((c.tc : Thread nD τ).loc main_arg6) (ix1 i) := by
  rw [← entry_b2 m c a i]
  blk_simp [iblk]
  exact congrArg _ (by blk_ext [index_7])

theorem block_g1 (t : Fin cfg0.N) (a : Fin 1) (i : Fin 128) :
    iblk (F := Ideal) m c 8 t (ix2 a i) = m ((c.tc : Thread nD τ).loc main_arg7) (ix1 i) := by
  rw [← entry_g1 m c a i]
  blk_simp [iblk]
  exact congrArg _ (by blk_ext [index_8])

theorem block_t1 (t : Fin cfg0.N) (a : Fin 1) (i : Fin 128) :
    iblk (F := Ideal) m c 9 t (ix2 a i) = m ((c.tc : Thread nD τ).loc main_arg8) (ix1 i) := by
  rw [← entry_t1 m c a i]
  blk_simp [iblk]
  exact congrArg _ (by blk_ext [index_9])

theorem block_g2 (t : Fin cfg0.N) (a : Fin 1) (i : Fin 128) :
    iblk (F := Ideal) m c 10 t (ix2 a i) = m ((c.tc : Thread nD τ).loc main_arg9) (ix1 i) := by
  rw [← entry_g2 m c a i]
  blk_simp [iblk]
  exact congrArg _ (by blk_ext [index_10])

theorem block_t2 (t : Fin cfg0.N) (a : Fin 1) (i : Fin 128) :
    iblk (F := Ideal) m c 11 t (ix2 a i) = m ((c.tc : Thread nD τ).loc main_arg10) (ix1 i) := by
  rw [← entry_t2 m c a i]
  blk_simp [iblk]
  exact congrArg _ (by blk_ext [index_11])

/-! ## The result -/

/-- The weights the kernel is launched on. -/
def weightsK : Params :=
  weights (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10))

/-- What the body leaves at grid point `t`, at graph `b` of the block, is that graph's network. -/
theorem left_at (t : Fin cfg0.N) (b d : Fin 128) :
    out0_12 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (ix2 b d)
      = result normK geluK adjK (weightsK m c) (m ((c.tc : Thread nD τ).loc main_arg0)) (ix2 (at_ t b) d) := by
  rw [out_apply]
  simp only [block_nodes, block_positions, block_We, block_be, block_W1, block_b1, block_W2, block_b2, block_g1, block_t1, block_g2, block_t2]
  rfl

theorem index_split (y : S128x128.Idx) : ∃ b d : Fin 128, y = ix2 b d :=
  ⟨y 0, y 1, by funext a; fin_cases a <;> rfl⟩

/-- Where graph `b` of the block at grid point `t` sits in the result array. -/
theorem place_out (t : Fin cfg0.N) (b d : Fin 128) : (win0_12.blk t).view.emb (ix2 b d) = ix2 (at_ t b) d := by
  funext a
  fin_cases a <;> apply Fin.ext <;> blk_simp [index_12] <;> simp [ix2, at_]

/-- The result array after the run is the network of every graph, with the kernel's choice of neighbours. -/
theorem array_eq : (dats (F := Ideal) m 0 c).arrAt 12 cfg0.N
    = result normK geluK adjK (weightsK m c) (m ((c.tc : Thread nD τ).loc main_arg0)) := by
  generalize hG : result normK geluK adjK (weightsK m c) (m ((c.tc : Thread nD τ).loc main_arg0)) = G
  refine (dats (F := Ideal) m 0 c).arrAt_eq_of_covers 12 G (by decide +kernel) fun t hf y => ?_
  rw [after0_12]
  obtain ⟨b, d, rfl⟩ := index_split y
  blk_simp
  rw [place_out, ← hG]
  exact left_at m c t b d

end Cert.Proof

end
-- ==== Proof.RefLayers.lean ====
/-
  What the reference computes from its matrix of neighbours on: every layer read at an index, as the corresponding step
  of `network` (Spec.lean) in the reference's own spelling.
-/
module

public import proofs.«01_k».proof.Proof.Gen.ReferenceIdeal.Read
public import proofs.«01_k».proof.Proof.Inputs

@[expose] public section

noncomputable section

namespace Cert.Proof

open Idealize.ShloMosaic
open Cert.ReferenceIdeal Cert.ReferenceIdeal.Gen Cert.ReferenceIdeal.Read

theorem host_half : Ideal.ofBits FTy.f32 0x3F000000#32 = half := by
  unfold half; simp [Ideal.ofBits, Ideal.ieee, -EReal.coe_mul]; norm_num

theorem host_128 : Ideal.ofBits FTy.f32 0x43000000#32 = ((128 : ℝ) : EReal) := by
  simp [Ideal.ofBits, Ideal.ieee, -EReal.coe_mul]; norm_num

theorem host_bot : Ideal.ofBits FTy.f32 0xFF800000#32 = ⊥ := by simp [Ideal.ofBits, Ideal.ieee]

theorem host_zero : Ideal.ofBits FTy.f32 0x00000000#32 = 0 := by simp [Ideal.ofBits, Ideal.ieee]

theorem host_invSqrt2 : Ideal.ofBits FTy.f32 0x3F3504F3#32 = invSqrt2 := by
  unfold invSqrt2; simp [Ideal.ofBits, Ideal.ieee, -EReal.coe_mul]; norm_num

section

variable (x0 : Arr3 16384 20 9) (x1 : Arr2 9 128) (x2 : Arr1 128) (x3 : Arr2 128 128) (x4 : Arr1 128) (x5 : Arr2 128 128)
  (x6 x7 x8 x9 x10 : Arr1 128) (g : Fin 16384)

/-- The reference's matrix of neighbours. -/
def adjR : Nodes 20 := fun i j => val_main_v39 (F := Ideal) x0 (ix3 g i j)

theorem embed_apply (i : Fin 20) (d : Fin 128) :
    val_main_v43 (F := Ideal) x0 x1 x2 (ix3 g i d) = dense (fun k c => x1 (ix2 k c)) (fun c => x2 (ix1 c)) (nodes x0 g) i d := by
  pointwise [val_main_v43, val_main_v42, val_main_v41, val_main_v40]
  rfl

theorem gather1_apply (i : Fin 20) (d : Fin 128) :
    val_main_v44 (F := Ideal) x0 x1 x2 (ix3 g i d) = gather (adjR x0 g) (fun i d => val_main_v43 (F := Ideal) x0 x1 x2 (ix3 g i d)) i d := by
  rw [val_main_v44_apply]
  unfold adjR gather
  refine Finset.sum_congr rfl fun k _ => ?_
  rw [show lidx_main_v44 (ix3 g i d) k = ix3 g i k from funext fun a => by fin_cases a <;> rfl,
    show ridx_main_v44 (ix3 g i d) k = ix3 g k d from funext fun a => by fin_cases a <;> rfl]

theorem bias1_apply (i : Fin 20) (d : Fin 128) : val_main_v47 (F := Ideal) x4 (ix3 g i d) = x4 (ix1 d) := by
  pointwise [val_main_v47, val_main_v46]

theorem dense1_apply (i : Fin 20) (d : Fin 128) :
    val_main_v48 (F := Ideal) x0 x1 x2 x3 x4 (ix3 g i d) = dense (fun k c => x3 (ix2 k c)) (fun c => x4 (ix1 c)) (fun i d => val_main_v44 (F := Ideal) x0 x1 x2 (ix3 g i d)) i d := by
  rw [val_main_v48_apply, val_main_v45_apply, bias1_apply]
  refine congrArg (· + x4 (ix1 d)) (Finset.sum_congr rfl fun k _ => ?_)
  rw [show lidx_main_v45 (ix3 g i d) k = ix3 g i k from funext fun a => by fin_cases a <;> rfl,
    show ridx_main_v45 (ix3 g i d) k = ix2 k d from funext fun a => by fin_cases a <;> rfl]

theorem mean1_apply (i : Fin 20) (z : Fin 1) : val_main_v52 (F := Ideal) x0 x1 x2 x3 x4 (ix3 g i z) = mean (fun d => val_main_v48 (F := Ideal) x0 x1 x2 x3 x4 (ix3 g i d)) := by
  unfold val_main_v52 val_main_v51 val_main_v50 val_main_v49 val_main_cst_8 val_main_cst_9
  generalize val_main_v48 (F := Ideal) x0 x1 x2 x3 x4 = y
  pointwise
  simp only [host_zero, host_128, zero_add]
  rfl

theorem centred1_apply (i : Fin 20) (d : Fin 128) :
    val_main_v54 (F := Ideal) x0 x1 x2 x3 x4 (ix3 g i d) = val_main_v48 (F := Ideal) x0 x1 x2 x3 x4 (ix3 g i d) - mean (fun d => val_main_v48 (F := Ideal) x0 x1 x2 x3 x4 (ix3 g i d)) := by
  rw [val_main_v54_apply, val_main_v53_apply, show idx_main_v53 (ix3 g i d) = ix3 g i 0 from funext fun a => by fin_cases a <;> rfl, mean1_apply]
  rfl

theorem var1_apply (i : Fin 20) (z : Fin 1) : val_main_v59 (F := Ideal) x0 x1 x2 x3 x4 (ix3 g i z)
    = mean (fun d => (val_main_v48 (F := Ideal) x0 x1 x2 x3 x4 (ix3 g i d) - mean (fun d => val_main_v48 (F := Ideal) x0 x1 x2 x3 x4 (ix3 g i d)))
        * (val_main_v48 (F := Ideal) x0 x1 x2 x3 x4 (ix3 g i d) - mean (fun d => val_main_v48 (F := Ideal) x0 x1 x2 x3 x4 (ix3 g i d)))) := by
  rw [val_main_v59_apply, val_main_v57_apply, show idx_main_v57 (ix3 g i z) = ix2 g i from funext fun a => by fin_cases a <;> rfl, val_main_v56_apply, val_main_v58_apply]
  have hs : ∀ k : Fin 128, val_main_v55 (F := Ideal) x0 x1 x2 x3 x4 (idx_main_v56 (ix2 g i) k)
      = (val_main_v48 (F := Ideal) x0 x1 x2 x3 x4 (ix3 g i k) - mean (fun d => val_main_v48 (F := Ideal) x0 x1 x2 x3 x4 (ix3 g i d))) * (val_main_v48 (F := Ideal) x0 x1 x2 x3 x4 (ix3 g i k) - mean (fun d => val_main_v48 (F := Ideal) x0 x1 x2 x3 x4 (ix3 g i d))) := by
    intro k
    rw [show idx_main_v56 (ix2 g i) k = ix3 g i k from funext fun a => by fin_cases a <;> rfl, val_main_v55_apply, centred1_apply]
    rfl
  rw [Finset.sum_congr rfl fun k _ => hs k]
  generalize val_main_v48 (F := Ideal) x0 x1 x2 x3 x4 = y
  show Ideal.div (Ideal.ofBits FTy.f32 0x00000000#32 + _) (Ideal.ofBits FTy.f32 0x43000000#32) = _
  rw [host_zero, host_128, zero_add]
  rfl

theorem gain1_apply (i : Fin 20) (d : Fin 128) : val_main_v68 (F := Ideal) x7 (ix3 g i d) = x7 (ix1 d) := by
  pointwise [val_main_v68, val_main_v67]

theorem shift1_apply (i : Fin 20) (d : Fin 128) : val_main_v71 (F := Ideal) x8 (ix3 g i d) = x8 (ix1 d) := by
  pointwise [val_main_v71, val_main_v70]

theorem norm1_apply (i : Fin 20) (d : Fin 128) :
    val_main_v72 (F := Ideal) x0 x1 x2 x3 x4 x7 x8 (ix3 g i d)
      = normR (fun c => x7 (ix1 c)) (fun c => x8 (ix1 c)) (fun d => val_main_v48 (F := Ideal) x0 x1 x2 x3 x4 (ix3 g i d)) d := by
  rw [val_main_v72_apply, val_main_v69_apply, val_main_v66_apply, val_main_v61_apply, val_main_v60_apply, val_main_v65_apply, val_main_v64_apply, val_main_v63_apply, val_main_v62_apply,
    show idx_main_v60 (ix3 g i d) = ix3 g i 0 from funext fun a => by fin_cases a <;> rfl, show idx_main_v65 (ix3 g i d) = ix3 g i 0 from funext fun a => by fin_cases a <;> rfl,
    mean1_apply, var1_apply, gain1_apply, shift1_apply]
  generalize val_main_v48 (F := Ideal) x0 x1 x2 x3 x4 = y
  rfl

theorem gelu1_apply (i : Fin 20) (d : Fin 128) :
    val_main_v79 (F := Ideal) x0 x1 x2 x3 x4 x7 x8 (ix3 g i d) = geluR (val_main_v72 (F := Ideal) x0 x1 x2 x3 x4 x7 x8 (ix3 g i d)) := by
  unfold val_main_v79 val_main_v78 val_main_v77 val_main_v76 val_main_v75 val_main_v74 val_main_v73 val_main_cst_13 val_main_cst_14
  generalize val_main_v72 (F := Ideal) x0 x1 x2 x3 x4 x7 x8 = y
  pointwise
  simp only [host_half, host_invSqrt2]
  rfl

theorem gather2_apply (i : Fin 20) (d : Fin 128) :
    val_main_v80 (F := Ideal) x0 x1 x2 x3 x4 x7 x8 (ix3 g i d) = gather (adjR x0 g) (fun i d => val_main_v79 (F := Ideal) x0 x1 x2 x3 x4 x7 x8 (ix3 g i d)) i d := by
  rw [val_main_v80_apply]
  unfold adjR gather
  refine Finset.sum_congr rfl fun k _ => ?_
  rw [show lidx_main_v80 (ix3 g i d) k = ix3 g i k from funext fun a => by fin_cases a <;> rfl,
    show ridx_main_v80 (ix3 g i d) k = ix3 g k d from funext fun a => by fin_cases a <;> rfl]

theorem bias2_apply (i : Fin 20) (d : Fin 128) : val_main_v83 (F := Ideal) x6 (ix3 g i d) = x6 (ix1 d) := by
  pointwise [val_main_v83, val_main_v82]

theorem dense2_apply (i : Fin 20) (d : Fin 128) :
    val_main_v84 (F := Ideal) x0 x1 x2 x3 x4 x5 x6 x7 x8 (ix3 g i d) = dense (fun k c => x5 (ix2 k c)) (fun c => x6 (ix1 c)) (fun i d => val_main_v80 (F := Ideal) x0 x1 x2 x3 x4 x7 x8 (ix3 g i d)) i d := by
  rw [val_main_v84_apply, val_main_v81_apply, bias2_apply]
  refine congrArg (· + x6 (ix1 d)) (Finset.sum_congr rfl fun k _ => ?_)
  rw [show lidx_main_v81 (ix3 g i d) k = ix3 g i k from funext fun a => by fin_cases a <;> rfl,
    show ridx_main_v81 (ix3 g i d) k = ix2 k d from funext fun a => by fin_cases a <;> rfl]

theorem mean2_apply (i : Fin 20) (z : Fin 1) : val_main_v88 (F := Ideal) x0 x1 x2 x3 x4 x5 x6 x7 x8 (ix3 g i z) = mean (fun d => val_main_v84 (F := Ideal) x0 x1 x2 x3 x4 x5 x6 x7 x8 (ix3 g i d)) := by
  unfold val_main_v88 val_main_v87 val_main_v86 val_main_v85 val_main_cst_15 val_main_cst_16
  generalize val_main_v84 (F := Ideal) x0 x1 x2 x3 x4 x5 x6 x7 x8 = y
  pointwise
  simp only [host_zero, host_128, zero_add]
  rfl

theorem centred2_apply (i : Fin 20) (d : Fin 128) :
    val_main_v90 (F := Ideal) x0 x1 x2 x3 x4 x5 x6 x7 x8 (ix3 g i d) = val_main_v84 (F := Ideal) x0 x1 x2 x3 x4 x5 x6 x7 x8 (ix3 g i d) - mean (fun d => val_main_v84 (F := Ideal) x0 x1 x2 x3 x4 x5 x6 x7 x8 (ix3 g i d)) := by
  rw [val_main_v90_apply, val_main_v89_apply, show idx_main_v89 (ix3 g i d) = ix3 g i 0 from funext fun a => by fin_cases a <;> rfl, mean2_apply]
  rfl

theorem var2_apply (i : Fin 20) (z : Fin 1) : val_main_v95 (F := Ideal) x0 x1 x2 x3 x4 x5 x6 x7 x8 (ix3 g i z)
    = mean (fun d => (val_main_v84 (F := Ideal) x0 x1 x2 x3 x4 x5 x6 x7 x8 (ix3 g i d) - mean (fun d => val_main_v84 (F := Ideal) x0 x1 x2 x3 x4 x5 x6 x7 x8 (ix3 g i d)))
        * (val_main_v84 (F := Ideal) x0 x1 x2 x3 x4 x5 x6 x7 x8 (ix3 g i d) - mean (fun d => val_main_v84 (F := Ideal) x0 x1 x2 x3 x4 x5 x6 x7 x8 (ix3 g i d)))) := by
  rw [val_main_v95_apply, val_main_v93_apply, show idx_main_v93 (ix3 g i z) = ix2 g i from funext fun a => by fin_cases a <;> rfl, val_main_v92_apply, val_main_v94_apply]
  have hs : ∀ k : Fin 128, val_main_v91 (F := Ideal) x0 x1 x2 x3 x4 x5 x6 x7 x8 (idx_main_v92 (ix2 g i) k)
      = (val_main_v84 (F := Ideal) x0 x1 x2 x3 x4 x5 x6 x7 x8 (ix3 g i k) - mean (fun d => val_main_v84 (F := Ideal) x0 x1 x2 x3 x4 x5 x6 x7 x8 (ix3 g i d))) * (val_main_v84 (F := Ideal) x0 x1 x2 x3 x4 x5 x6 x7 x8 (ix3 g i k) - mean (fun d => val_main_v84 (F := Ideal) x0 x1 x2 x3 x4 x5 x6 x7 x8 (ix3 g i d))) := by
    intro k
    rw [show idx_main_v92 (ix2 g i) k = ix3 g i k from funext fun a => by fin_cases a <;> rfl, val_main_v91_apply, centred2_apply]
    rfl
  rw [Finset.sum_congr rfl fun k _ => hs k]
  generalize val_main_v84 (F := Ideal) x0 x1 x2 x3 x4 x5 x6 x7 x8 = y
  show Ideal.div (Ideal.ofBits FTy.f32 0x00000000#32 + _) (Ideal.ofBits FTy.f32 0x43000000#32) = _
  rw [host_zero, host_128, zero_add]
  rfl

theorem gain2_apply (i : Fin 20) (d : Fin 128) : val_main_v104 (F := Ideal) x9 (ix3 g i d) = x9 (ix1 d) := by
  pointwise [val_main_v104, val_main_v103]

theorem shift2_apply (i : Fin 20) (d : Fin 128) : val_main_v107 (F := Ideal) x10 (ix3 g i d) = x10 (ix1 d) := by
  pointwise [val_main_v107, val_main_v106]

theorem norm2_apply (i : Fin 20) (d : Fin 128) :
    val_main_v108 (F := Ideal) x0 x1 x2 x3 x4 x5 x6 x7 x8 x9 x10 (ix3 g i d)
      = normR (fun c => x9 (ix1 c)) (fun c => x10 (ix1 c)) (fun d => val_main_v84 (F := Ideal) x0 x1 x2 x3 x4 x5 x6 x7 x8 (ix3 g i d)) d := by
  rw [val_main_v108_apply, val_main_v105_apply, val_main_v102_apply, val_main_v97_apply, val_main_v96_apply, val_main_v101_apply, val_main_v100_apply, val_main_v99_apply, val_main_v98_apply,
    show idx_main_v96 (ix3 g i d) = ix3 g i 0 from funext fun a => by fin_cases a <;> rfl, show idx_main_v101 (ix3 g i d) = ix3 g i 0 from funext fun a => by fin_cases a <;> rfl,
    mean2_apply, var2_apply, gain2_apply, shift2_apply]
  generalize val_main_v84 (F := Ideal) x0 x1 x2 x3 x4 x5 x6 x7 x8 = y
  rfl

theorem gelu2_apply (i : Fin 20) (d : Fin 128) :
    val_main_v116 (F := Ideal) x0 x1 x2 x3 x4 x5 x6 x7 x8 x9 x10 (ix3 g i d) = geluR (val_main_v109 (F := Ideal) x0 x1 x2 x3 x4 x5 x6 x7 x8 x9 x10 (ix3 g i d)) := by
  unfold val_main_v116 val_main_v115 val_main_v114 val_main_v113 val_main_v112 val_main_v111 val_main_v110 val_main_cst_20 val_main_cst_21
  generalize val_main_v109 (F := Ideal) x0 x1 x2 x3 x4 x5 x6 x7 x8 x9 x10 = y
  pointwise
  simp only [host_half, host_invSqrt2]
  rfl

theorem greatest_apply (d : Fin 128) :
    val_main_v117 (F := Ideal) x0 x1 x2 x3 x4 x5 x6 x7 x8 x9 x10 (ix2 g d) = greatest (fun i d => val_main_v116 (F := Ideal) x0 x1 x2 x3 x4 x5 x6 x7 x8 x9 x10 (ix3 g i d)) d := by
  unfold val_main_v117 val_main_cst_22
  generalize val_main_v116 (F := Ideal) x0 x1 x2 x3 x4 x5 x6 x7 x8 x9 x10 = y
  pointwise
  simp only [host_bot]
  rfl

/-- The reference's result is the network of every graph, with the reference's choice of neighbours. -/
theorem reference_apply (d : Fin 128) :
    val_main_v117 (F := Ideal) x0 x1 x2 x3 x4 x5 x6 x7 x8 x9 x10 (ix2 g d)
      = network normR geluR (adjR x0 g) (weights x1 x2 x3 x4 x5 x6 x7 x8 x9 x10) (nodes x0 g) d := by
  rw [greatest_apply]
  have h1 : (fun i d => val_main_v79 (F := Ideal) x0 x1 x2 x3 x4 x7 x8 (ix3 g i d))
      = hidden normR geluR (adjR x0 g) (weights x1 x2 x3 x4 x5 x6 x7 x8 x9 x10) (nodes x0 g) := by
    funext i d
    simp only [gelu1_apply, norm1_apply, dense1_apply, gather1_apply, embed_apply]
    rfl
  have h2 : (fun i d => val_main_v84 (F := Ideal) x0 x1 x2 x3 x4 x5 x6 x7 x8 (ix3 g i d))
      = layer2 (adjR x0 g) (weights x1 x2 x3 x4 x5 x6 x7 x8 x9 x10)
          (hidden normR geluR (adjR x0 g) (weights x1 x2 x3 x4 x5 x6 x7 x8 x9 x10) (nodes x0 g)) := by
    funext i d
    rw [dense2_apply]
    simp only [gather2_apply, h1]
    rfl
  have h3 : (fun i d => val_main_v116 (F := Ideal) x0 x1 x2 x3 x4 x5 x6 x7 x8 x9 x10 (ix3 g i d))
      = residual normR geluR (adjR x0 g) (weights x1 x2 x3 x4 x5 x6 x7 x8 x9 x10)
          (hidden normR geluR (adjR x0 g) (weights x1 x2 x3 x4 x5 x6 x7 x8 x9 x10) (nodes x0 g)) := by
    funext i d
    rw [gelu2_apply, val_main_v109_apply, norm2_apply]
    rw [show (fun d => val_main_v84 (F := Ideal) x0 x1 x2 x3 x4 x5 x6 x7 x8 (ix3 g i d)) = _ from congrFun h2 i,
      show val_main_v79 (F := Ideal) x0 x1 x2 x3 x4 x7 x8 (ix3 g i d) = _ from congrFun (congrFun h1 i) d]
    rfl
  rw [h3]
  rfl

end

end Cert.Proof

end
-- ==== Proof.RefDist.lean ====
/-
  The reference's distances: the clamped squared distance of two nodes, the negated distance its `top_k` orders a row by, and
  that a greater negated distance is a nearer node.
-/
module

public import proofs.«01_k».proof.Proof.RefLayers

@[expose] public section

noncomputable section

namespace Cert.Proof

open Idealize.ShloMosaic
open Cert.ReferenceIdeal Cert.ReferenceIdeal.Gen Cert.ReferenceIdeal.Read

/-- The value both programs' specification clamps a squared distance at, close to 1e-12. -/
def tiny : EReal := Ideal.ofBits FTy.f32 0x2B8CBCCC#32

theorem tiny_eq : tiny = ((9223372 / 2 ^ 63 : ℝ) : EReal) := by
  unfold tiny; simp [Ideal.ofBits, Ideal.ieee, -EReal.coe_mul]; norm_num

theorem tiny_pos : 0 < tiny := by
  rw [tiny_eq]
  exact EReal.coe_pos.2 (by norm_num)

section

variable (x0 : Arr3 16384 20 9) (g : Fin 16384)

theorem left_apply (i j : Fin 20) (c : Fin 3) : val_main_v3 (F := Ideal) x0 (ix4 g i j c) = positions x0 g c i := by
  rw [val_main_v3_apply, val_main_v1_apply, val_main_v0_apply]
  exact congrArg x0 (funext fun a => by fin_cases a <;> rfl)

theorem right_apply (i j : Fin 20) (c : Fin 3) : val_main_v4 (F := Ideal) x0 (ix4 g i j c) = positions x0 g c j := by
  rw [val_main_v4_apply, val_main_v2_apply, val_main_v0_apply]
  exact congrArg x0 (funext fun a => by fin_cases a <;> rfl)

theorem sqdist_apply (i j : Fin 20) : val_main_v7 (F := Ideal) x0 (ix3 g i j) = sqdist (positions x0 g) i j := by
  rw [val_main_v7_apply, val_main_cst_apply, show FloatOps.ofBits (F := Ideal) .f32 0x00000000#32 = (0 : EReal) from host_zero, zero_add]
  refine Finset.sum_congr rfl fun c _ => ?_
  rw [show idx_main_v7 (ix3 g i j) c = ix4 g i j c from funext fun a => by fin_cases a <;> rfl, val_main_v6_apply, val_main_v5_apply,
    left_apply, right_apply]
  rfl

/-- The clamped squared distance. -/
theorem floored_apply (i j : Fin 20) : val_main_v9 (F := Ideal) x0 (ix3 g i j) = floored tiny (sqdist (positions x0 g) i) j := by
  rw [val_main_v9_apply, sqdist_apply, val_main_v8_apply, val_main_cst_0_apply]
  rfl

/-- What the rows are ordered by. -/
theorem key_apply (i j : Fin 20) :
    val_main_v11 (F := Ideal) x0 (ix3 g i j) = -(Ideal.sqrt (floored tiny (sqdist (positions x0 g) i) j)) := by
  rw [val_main_v11_apply, val_main_v10_apply, floored_apply]
  rfl

end

/-- The square root is strictly increasing on the positive values. -/
theorem sqrt_strict {a b : EReal} (ha : 0 < a) (h : a < b) : Ideal.sqrt a < Ideal.sqrt b := by
  induction a with
  | bot => simp at ha
  | top => simp at h
  | coe a =>
    have ha' : 0 < a := by exact_mod_cast ha
    induction b with
    | bot => simp at h
    | top => simp [not_lt.2 ha'.le, EReal.coe_lt_top]
    | coe b =>
      have h' : a < b := by exact_mod_cast h
      simp only [Ideal.sqrt_coe, if_neg (not_lt.2 ha'.le), if_neg (not_lt.2 (ha'.trans h').le)]
      exact_mod_cast Real.sqrt_lt_sqrt ha'.le h'

theorem floored_pos (d : Fin 20 → EReal) (j : Fin 20) : 0 < floored tiny d j := tiny_pos.trans_le (le_max_right _ _)

/-- A nearer node has the greater negated distance. -/
theorem key_lt (d : Fin 20 → EReal) {j k : Fin 20} (h : floored tiny d j < floored tiny d k) :
    -(Ideal.sqrt (floored tiny d k)) < -(Ideal.sqrt (floored tiny d j)) :=
  EReal.neg_lt_neg_iff.2 (sqrt_strict (floored_pos d j) h)

end Cert.Proof

end
-- ==== Proof.RefOrder.lean ====
/-
  The order in which the reference's `top_k` lists a node's row, and the words its scatter is given: update `q` of node `i` of
  graph `g` carries the words `g`, `i` and the `q`-th node of that order.
-/
module

public import proofs.«01_k».proof.Proof.RefDist
public import Idealize.ShloMosaic.Lib.SortFacts
public import Idealize.ShloMosaic.Lib.Routing.OpsPair

@[expose] public section

noncomputable section

namespace Cert.Proof

open Idealize.ShloMosaic
open Cert.ReferenceIdeal Cert.ReferenceIdeal.Gen Cert.ReferenceIdeal.Read

/-- The stable order of a row of twenty, greater first. -/
def descending (w : Fin 20 → EReal) : Fin 20 → Fin 20 :=
  sortedFrom fun k k' => FloatOps.cmpfTotal (F := Ideal) (φ := FTy.f32) .gt (w k) (w k') == 1#1

/-- Place `q` of the five listed, as a place of the twenty. -/
def place (q : Fin 5) : Fin 20 := ⟨q.val, by omega⟩

/-- Whether a value comes before another. -/
theorem before_iff (x y : EReal) : (FloatOps.cmpfTotal (F := Ideal) (φ := FTy.f32) .gt x y == 1#1) = true ↔ y < x := by
  rw [show FloatOps.cmpfTotal (F := Ideal) (φ := FTy.f32) .gt x y = Ideal.cmpTotal .gt x y from rfl]
  unfold Ideal.cmpTotal Ideal.cmp CmpDirection.ordered
  by_cases h : y < x <;> simp [h]

/-- The index operand of a two-operand sort of the rows of a three-axis array, where it is the iota. -/
theorem sort_index {A : ℕ} (y : Arr3 A 20 20) (x : (⟨3, ![A, 20, 20]⟩ : Shape).Idx → BitVec 32) (hx : ∀ g i j, x (ix3 g i j) = BitVec.ofNat 32 j.val)
    (g : Fin A) (i p : Fin 20) :
    (Host.sort2 (⟨3, ![A, 20, 20]⟩ : Shape) 2 (fun l r => FloatOps.cmpfTotal (F := Ideal) (φ := FTy.f32) .gt l.1 r.1) y x).2 (ix3 g i p)
      = BitVec.ofNat 32 (descending (fun k => y (ix3 g i k)) p).val := by
  have hal : ∀ k : Fin 20, (ix3 g i p : (⟨3, ![A, 20, 20]⟩ : Shape).Idx).along (2 : Fin 3) k = ix3 g i k :=
    fun k => funext fun a => by fin_cases a <;> rfl
  have e : (Host.sort2 (⟨3, ![A, 20, 20]⟩ : Shape) 2 (fun l r => FloatOps.cmpfTotal (F := Ideal) (φ := FTy.f32) .gt l.1 r.1) y x).2 (ix3 g i p)
      = x ((ix3 g i p : (⟨3, ![A, 20, 20]⟩ : Shape).Idx).along (2 : Fin 3) (descending (fun k => y ((ix3 g i p : (⟨3, ![A, 20, 20]⟩ : Shape).Idx).along (2 : Fin 3) k)) p)) := by
    unfold Host.sort2
    rw [dif_pos (show 2 < (⟨3, ![A, 20, 20]⟩ : Shape).rank from (by decide : 2 < 3))]
    rfl
  rw [e]
  simp only [hal, hx]

theorem topK_index (y : Arr3 16384 20 20) (g : Fin 16384) (i : Fin 20) (q : Fin 5) :
    (Host.topK S16384x20x5 2 (FloatOps.cmpfTotal (F := Ideal) (φ := FTy.f32) .gt) y sliceFits_S16384x20x20_S16384x20x5).2 (ix3 g i q)
      = BitVec.ofNat 32 (descending (fun k => y (ix3 g i k)) (place q)).val := by
  unfold Host.topK
  dsimp only
  rw [extractStridedSlice_apply _ _ _ (ix3 g i q) (ix3 g i (place q)) (fun a => by fin_cases a <;> exact (Nat.zero_add _).symm)]
  exact sort_index y _ (fun g i j => rfl) g i (place q)

/-- Along the order no value exceeds an earlier one. -/
theorem descending_sorted (w : Fin 20 → EReal) (a b : Fin 20) (h : a < b) : w (descending w b) ≤ w (descending w a) := by
  have hn : ∀ x y : EReal, (FloatOps.cmpfTotal (F := Ideal) (φ := FTy.f32) .gt x y == 1#1) = false ↔ x ≤ y := fun x y => by
    rw [← Bool.not_eq_true, before_iff, not_lt]
  unfold descending
  exact (hn _ _).1 (sortedFrom_noInversion (fun k k' => FloatOps.cmpfTotal (F := Ideal) (φ := FTy.f32) .gt (w k) (w k') == 1#1)
    (fun k k' => FloatOps.cmpfTotal (F := Ideal) (φ := FTy.f32) .gt (w k) (w k') == 1#1)
    (fun k l hk => (hn _ _).2 ((before_iff _ _).1 hk).le)
    (fun _ _ hk => hk)
    (fun k l n h1 h2 => (hn _ _).2 (((hn _ _).1 h1).trans ((hn _ _).1 h2))) a b h)

/-- A word below 2^31 is left as it is by the wrap of a negative index. -/
theorem wrap_small (n : ℕ) (h : n < 2 ^ 31) (a : BitVec 32) :
    Scalar.select (IntOp.cmpi .slt (BitVec.ofNat 32 n) 0x00000000#32) a (BitVec.ofNat 32 n) = BitVec.ofNat 32 n :=
  Routing.wrap_of_lt _ _ (by rw [BitVec.toNat_ofNat]; omega)

section

variable (x0 : Arr3 16384 20 9) (g : Fin 16384) (i : Fin 20) (q : Fin 5)

theorem graph_word (z : Fin 1) : val_main_v34 (F := Ideal) (ix4 g i q z) = BitVec.ofNat 32 g.val := by
  rw [val_main_v34_apply, val_main_v32_apply, val_main_v21_apply, val_main_v18_apply, val_main_v17_apply, val_main_c_apply, val_main_v14_apply, val_main_v13_apply]
  exact wrap_small g.val (by omega) _

theorem node_word (z : Fin 1) : val_main_v35 (F := Ideal) (ix4 g i q z) = BitVec.ofNat 32 i.val := by
  rw [val_main_v35_apply, val_main_v33_apply, val_main_v26_apply, val_main_v23_apply, val_main_v22_apply, val_main_c_3_apply, val_main_v16_apply, val_main_v15_apply]
  exact wrap_small i.val (by omega) _

theorem listed_word (z : Fin 1) : val_main_v36 (F := Ideal) x0 (ix4 g i q z)
    = BitVec.ofNat 32 (descending (fun k => val_main_v11 (F := Ideal) x0 (ix3 g i k)) (place q)).val := by
  rw [val_main_v36_apply, show idx_main_v36 (ix4 g i q z) = ix3 g i q from funext fun a => by fin_cases a <;> rfl,
    val_main_v31_apply, val_main_v28_apply, val_main_v27_apply, val_main_c_5_apply,
    show val_main_indices (F := Ideal) x0 (ix3 g i q) = _ from topK_index (val_main_v11 (F := Ideal) x0) g i q]
  exact wrap_small _ (by omega) _

end

end Cert.Proof

end
-- ==== Proof.RefAdj.lean ====
/-
  The reference's matrix of neighbours: its scatter puts a one at `(g, i, j)` exactly when node `j` is among the first five of
  node `i`'s order; so, where a node's nearest five are told apart by their distances, it is the kernel's matrix.
-/
module

public import proofs.«01_k».proof.Proof.RefOrder
public import proofs.«01_k».proof.Proof.Body
public import Idealize.ShloMosaic.Lib.Pipeline.Value

@[expose] public section

noncomputable section

namespace Cert.Proof

open Idealize.ShloMosaic
open Cert.ReferenceIdeal Cert.ReferenceIdeal.Gen Cert.ReferenceIdeal.Read

/-- Update `(a, b, e)` of a scatter of scalars into a three-axis array, three index words each, lands at `(r, s, t)` exactly when
    its words, read signed, are `r`, `s` and `t`. -/
theorem scatter_lands3 {R S T A B E w : ℕ} (d : ScatterDims (⟨3, ![R, S, T]⟩ : Shape) (⟨4, ![A, B, E, 3]⟩ : Shape) (⟨3, ![A, B, E]⟩ : Shape))
    (hins : d.insertedWindowDims = [0, 1, 2]) (hop : d.scatterDimsToOperandDims = [0, 1, 2]) (hvec : d.indexVectorDim = 3)
    (idx : IVec (⟨4, ![A, B, E, 3]⟩ : Shape) w) (a : Fin A) (b : Fin B) (e : Fin E) (r : Fin R) (s : Fin S) (t : Fin T) :
    d.resultIdx? (ix3 a b e) idx = some (ix3 r s t)
      ↔ (idx (ix4 a b e 0)).toInt = r.val ∧ (idx (ix4 a b e 1)).toInt = s.val ∧ (idx (ix4 a b e 2)).toInt = t.val := by
  have hupd : d.updateWindowDims = [] := List.eq_nil_of_length_eq_zero (by
    rw [d.window_length]
    show ((⟨3, ![R, S, T]⟩ : Shape).kept d.insertedWindowDims).length = 0
    rw [hins]
    rfl)
  have hmem : ∀ q : Fin 3, q ∈ d.scatterDimsToOperandDims := fun q => by rw [hop]; fin_cases q <;> simp
  have hwindow : ∀ q : Fin 3, d.window (ix3 a b e) q = 0 := fun q => by
    unfold ScatterDims.window
    rw [dif_neg fun h => (of_decide_eq_true (List.mem_filter.1 h).2) (by rw [hins]; fin_cases q <;> simp)]
  have hkept : d.siKept = [0, 1, 2] := by
    show (List.finRange 4).filter (fun x => decide (x.val ≠ d.indexVectorDim)) = _
    rw [hvec]
    rfl
  have hscat : d.uScatter = [0, 1, 2] := by
    show (⟨3, ![A, B, E]⟩ : Shape).kept d.updateWindowDims = _
    rw [hupd]
    rfl
  have hget : ∀ (l : List (Fin 3)) (n : ℕ) (h : n < l.length) (m : Fin 3), l = [0, 1, 2] → n = m.val → l[n]'h = m := by
    intro l n h m hl hn
    subst hl
    subst hn
    fin_cases m <;> rfl
  have hidx : ∀ q : Fin 3, d.siIdx (ix3 a b e) ⟨d.scatterDimsToOperandDims.idxOf q, List.idxOf_lt_length_iff.2 (hmem q)⟩ = ix4 a b e q := fun q => by
    funext c
    apply Fin.ext
    match c with
    | ⟨0, _⟩ =>
      unfold ScatterDims.siIdx
      rw [dif_neg (by rw [hvec]; exact (by decide : (0 : ℕ) ≠ 3))]
      unfold ScatterDims.siCoord
      simp only [Fin.val_cast]
      rw [hget _ _ _ 0 hscat (by rw [hkept]; rfl)]
      rfl
    | ⟨1, _⟩ =>
      unfold ScatterDims.siIdx
      rw [dif_neg (by rw [hvec]; exact (by decide : (1 : ℕ) ≠ 3))]
      unfold ScatterDims.siCoord
      simp only [Fin.val_cast]
      rw [hget _ _ _ 1 hscat (by rw [hkept]; rfl)]
      rfl
    | ⟨2, _⟩ =>
      unfold ScatterDims.siIdx
      rw [dif_neg (by rw [hvec]; exact (by decide : (2 : ℕ) ≠ 3))]
      unfold ScatterDims.siCoord
      simp only [Fin.val_cast]
      rw [hget _ _ _ 2 hscat (by rw [hkept]; rfl)]
      rfl
    | ⟨3, _⟩ =>
      unfold ScatterDims.siIdx
      rw [dif_pos (by rw [hvec])]
      show List.idxOf q d.scatterDimsToOperandDims = q.val
      rw [hop]
      fin_cases q <;> rfl
  have hstart : ∀ q : Fin 3, d.start (ix3 a b e) idx q = (idx (ix4 a b e q)).toInt := fun q => by
    unfold ScatterDims.start
    rw [dif_pos (hmem q), hidx]
  rw [Routing.resultIdx?_eq_some]
  have h0 := hstart 0
  have h1 := hstart 1
  have h2 := hstart 2
  have w0 := hwindow 0
  have w1 := hwindow 1
  have w2 := hwindow 2
  constructor
  · intro h
    have l0 : _ = ((r.val : ℕ) : Int) := h 0
    have l1 : _ = ((s.val : ℕ) : Int) := h 1
    have l2 : _ = ((t.val : ℕ) : Int) := h 2
    rw [h0, w0] at l0
    rw [h1, w1] at l1
    rw [h2, w2] at l2
    exact ⟨by simpa using l0, by simpa using l1, by simpa using l2⟩
  · intro ⟨l0, l1, l2⟩ q
    match q with
    | ⟨0, _⟩ => refine Eq.trans (congrArg₂ (fun x (y : ℕ) => x + (y : Int)) h0 w0) ?_; simpa using l0
    | ⟨1, _⟩ => refine Eq.trans (congrArg₂ (fun x (y : ℕ) => x + (y : Int)) h1 w1) ?_; simpa using l1
    | ⟨2, _⟩ => refine Eq.trans (congrArg₂ (fun x (y : ℕ) => x + (y : Int)) h2 w2) ?_; simpa using l2

/-- Setting a value over and over: it is set if some step sets it. -/
theorem foldl_set {ι α : Type} (l : List ι) (hit : ι → Prop) [DecidablePred hit] (v z : α) :
    l.foldl (fun a n => if hit n then v else a) z = if ∃ n ∈ l, hit n then v else z := by
  induction l generalizing z with
  | nil => simp
  | cons n l ih =>
    rw [List.foldl_cons, ih]
    by_cases hn : hit n
    · rw [if_pos hn, ite_self, if_pos ⟨n, List.mem_cons_self, hn⟩]
    · rw [if_neg hn]
      refine if_congr ?_ rfl rfl
      constructor
      · intro ⟨m, hm, h⟩; exact ⟨m, List.mem_cons_of_mem _ hm, h⟩
      · intro ⟨m, hm, h⟩
        rcases List.mem_cons.1 hm with e | hm
        · subst e; exact absurd h hn
        · exact ⟨m, hm, h⟩

theorem host_one : Ideal.ofBits FTy.f32 0x3F800000#32 = 1 := by
  simp [Ideal.ofBits, Ideal.ieee, -EReal.coe_mul]; norm_num

/-- A small word read signed is the number it was made from. -/
theorem word_toInt (n : ℕ) (h : n < 2 ^ 31) : (BitVec.ofNat 32 n).toInt = n := by
  rw [BitVec.toInt_eq_toNat_of_lt (by rw [BitVec.toNat_ofNat]; omega), BitVec.toNat_ofNat]
  omega

section

variable (x0 : Arr3 16384 20 9) (g : Fin 16384) (i : Fin 20)

theorem words_apply (q : Fin 5) :
    val_main_v37 (F := Ideal) x0 (ix4 g i q 0) = BitVec.ofNat 32 g.val
      ∧ val_main_v37 (F := Ideal) x0 (ix4 g i q 1) = BitVec.ofNat 32 i.val
      ∧ val_main_v37 (F := Ideal) x0 (ix4 g i q 2) = BitVec.ofNat 32 (descending (fun k => val_main_v11 (F := Ideal) x0 (ix3 g i k)) (place q)).val := by
  unfold val_main_v37
  refine ⟨?_, ?_, ?_⟩
  · refine (concatenate_apply_piece (t := S16384x20x5x3) 3 _ _ (ix4 g i q 0) 0 ?_ S16384x20x5x1 _ ?_ rfl 0 ?_ (ix4 g i q (0 : Fin 1)) ?_ rfl).trans (graph_word g i q 0)
    · exact (by decide : 0 < 3)
    · rfl
    · rfl
    · intro b hb
      fin_cases b <;> first | rfl | exact absurd rfl hb
  · refine (concatenate_apply_piece (t := S16384x20x5x3) 3 _ _ (ix4 g i q 1) 1 ?_ S16384x20x5x1 _ ?_ rfl 1 ?_ (ix4 g i q (0 : Fin 1)) ?_ rfl).trans (node_word g i q 0)
    · exact (by decide : 1 < 3)
    · rfl
    · rfl
    · intro b hb
      fin_cases b <;> first | rfl | exact absurd rfl hb
  · refine (concatenate_apply_piece (t := S16384x20x5x3) 3 _ _ (ix4 g i q 2) 2 ?_ S16384x20x5x1 _ ?_ rfl 2 ?_ (ix4 g i q (0 : Fin 1)) ?_ rfl).trans (listed_word x0 g i q 0)
    · exact (by decide : 2 < 3)
    · rfl
    · rfl
    · intro b hb
      fin_cases b <;> first | rfl | exact absurd rfl hb

/-- The reference's matrix has a one exactly where node `j` is among the first five of node `i`'s order. -/
theorem adjR_apply (j : Fin 20) :
    adjR x0 g i j = if ∃ q : Fin 5, descending (fun k => val_main_v11 (F := Ideal) x0 (ix3 g i k)) (place q) = j then 1 else 0 := by
  have hland := fun (a : Fin 16384) (b : Fin 20) (q : Fin 5) =>
    scatter_lands3 scatter_S16384x20x20_S16384x20x5x3_S16384x20x5_n_012_012_3 rfl rfl rfl (val_main_v37 (F := Ideal) x0) a b q g i j
  have hit : (∃ n ∈ List.finRange S16384x20x5.numel, scatter_S16384x20x20_S16384x20x5x3_S16384x20x5_n_012_012_3.resultIdx? (S16384x20x5.rowMajor.symm n)
      (val_main_v37 (F := Ideal) x0) = some (ix3 g i j)) ↔ ∃ q : Fin 5, descending (fun k => val_main_v11 (F := Ideal) x0 (ix3 g i k)) (place q) = j := by
    constructor
    · intro ⟨n, _, hn⟩
      generalize S16384x20x5.rowMajor.symm n = u at hn
      obtain ⟨a, b, q, rfl⟩ : ∃ (a : Fin 16384) (b : Fin 20) (q : Fin 5), u = ix3 a b q := ⟨u 0, u 1, u 2, funext fun c => by fin_cases c <;> rfl⟩
      have h := (hland a b q).1 hn
      rw [(words_apply x0 a b q).1, (words_apply x0 a b q).2.1, (words_apply x0 a b q).2.2, word_toInt _ (by omega), word_toInt _ (by omega),
        word_toInt _ (by omega)] at h
      obtain ⟨h1, h2, h3⟩ := h
      obtain rfl : a = g := Fin.ext (by exact_mod_cast h1)
      obtain rfl : b = i := Fin.ext (by exact_mod_cast h2)
      exact ⟨q, Fin.ext (by exact_mod_cast h3)⟩
    · intro ⟨q, hq⟩
      refine ⟨S16384x20x5.rowMajor (ix3 g i q), List.mem_finRange _, ?_⟩
      rw [Equiv.symm_apply_apply]
      refine (hland g i q).2 ?_
      rw [(words_apply x0 g i q).1, (words_apply x0 g i q).2.1, (words_apply x0 g i q).2.2, word_toInt _ (by omega), word_toInt _ (by omega),
        word_toInt _ (by omega), hq]
      exact ⟨rfl, rfl, rfl⟩
  have hone : ∀ u, val_main_v38 (F := Ideal) u = (1 : EReal) := fun u => by rw [val_main_v38_apply, val_main_cst_7_apply]; exact host_one
  have hzero : val_main_v12 (F := Ideal) (ix3 g i j) = (0 : EReal) := by rw [val_main_v12_apply, val_main_cst_1_apply]; exact host_zero
  unfold adjR val_main_v39
  rw [Routing.scatter_at]
  simp only [hone, hzero]
  rw [foldl_set]
  by_cases hq : ∃ q : Fin 5, descending (fun k => val_main_v11 (F := Ideal) x0 (ix3 g i k)) (place q) = j
  · rw [if_pos hq, if_pos (hit.2 hq)]
  · rw [if_neg hq, if_neg fun h => hq (hit.1 h)]

/-- Where the nearest five are told apart by their distances, the two programs choose the same neighbours. -/
theorem adj_eq (hd : ∀ i, Distinct (floored tiny (sqdist (positions x0 g) i))) : adjR x0 g = adjK (positions x0 g) := by
  funext i j
  rw [adjR_apply]
  unfold adjK
  refine if_congr ?_ rfl rfl
  rw [kernel_choice tiny _ (hd i) j]
  set w : Fin 20 → EReal := fun k => val_main_v11 (F := Ideal) x0 (ix3 g i k)
  refine Iff.trans ?_ (sorted_choice _ (hd i) (descending w) (sortedFrom_injective _) (sortedFrom_surjective _) (fun a b hab => ?_) j)
  · constructor
    · intro ⟨q, hq⟩; exact ⟨place q, q.isLt, hq⟩
    · intro ⟨q, hlt, hq⟩; exact ⟨⟨q.val, hlt⟩, hq⟩
  · by_contra hn
    have h1 := key_lt (sqdist (positions x0 g) i) (not_le.1 hn)
    have h2 := descending_sorted w a b hab
    have hk : ∀ k, w k = -(Ideal.sqrt (floored tiny (sqdist (positions x0 g) i) k)) := fun k => key_apply x0 g i k
    rw [hk, hk] at h2
    exact absurd h1 (not_lt.2 h2)

end

end Cert.Proof

end
-- ==== Proof.Norm.lean ====
/-
  The two normalisations agree on rows of real numbers, the two activations agree everywhere, and so the kernel's network
  is the reference's wherever the features, the weights and the first layer's shift are real numbers. The gains and the
  last shift may be any extended reals.
-/
module

public import proofs.«01_k».proof.Proof.Spec

@[expose] public section

noncomputable section

namespace Cert.Proof

open Idealize.ShloMosaic

/-- An extended real that is a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers, each read as an extended real, is the real sum. -/
theorem coe_sum {ι : Type} (s : Finset ι) (f : ι → ℝ) : (((∑ i ∈ s, f i : ℝ)) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose r hr using h
  exact ⟨∑ i ∈ s, r i, by rw [coe_sum]; exact Finset.sum_congr rfl fun i _ => hr i⟩

/-- The mean of a row of real numbers is the real mean. -/
theorem mean_coe (r : Fin 128 → ℝ) : mean (fun d => (r d : EReal)) = (((∑ d, r d) / 128 : ℝ) : EReal) := by
  unfold mean
  rw [← coe_sum, Ideal.div_coe (by norm_num), ← EReal.coe_mul]
  congr 1; ring

/-- The small number is a positive real. -/
theorem eps_pos : ∃ e : ℝ, 0 < e ∧ eps = (e : EReal) := by
  refine ⟨_, ?_, by unfold eps; simp [Ideal.ofBits, Ideal.ieee, -EReal.coe_mul]; rfl⟩
  positivity

/-- The mean of the squares less the squared mean is the mean of the squared differences. -/
theorem variance_eq (r : Fin 128 → ℝ) :
    (∑ k, r k * r k) / 128 - (∑ k, r k) / 128 * ((∑ k, r k) / 128)
      = (∑ k, (r k - (∑ k, r k) / 128) * (r k - (∑ k, r k) / 128)) / 128 := by
  set S := ∑ k, r k with hS
  have h : ∑ k, (r k - S / 128) * (r k - S / 128) = (∑ k, r k * r k) - 2 * (S / 128) * S + 128 * (S / 128 * (S / 128)) := by
    have h1 : ∀ k, (r k - S / 128) * (r k - S / 128) = r k * r k - 2 * (S / 128) * r k + S / 128 * (S / 128) := fun k => by ring
    rw [Finset.sum_congr rfl fun k _ => h1 k, Finset.sum_add_distrib, Finset.sum_sub_distrib, ← Finset.mul_sum, ← hS]
    simp
  rw [h]; ring

/-- The reference's normalisation of a row of real numbers, its root written as a positive real. -/
theorem norm_coe (r : Fin 128 → ℝ) : ∃ (c : Fin 128 → ℝ) (s : ℝ), 0 < s ∧ ∀ g b : Feat,
    normR g b (fun d => (r d : EReal)) = (fun d => Ideal.div (c d : EReal) (s : EReal) * g d + b d)
      ∧ normK g b (fun d => (r d : EReal)) = (fun d => (c d : EReal) * (((s⁻¹ : ℝ) : EReal) * g d) + b d) := by
  obtain ⟨e, he, hE⟩ := eps_pos
  set S := (∑ k, r k) / 128 with hS
  set V := (∑ k, (r k - S) * (r k - S)) / 128 with hV
  have hV0 : 0 ≤ V := div_nonneg (Finset.sum_nonneg fun k _ => mul_self_nonneg _) (by norm_num)
  have hpos : 0 < V + e := by linarith
  refine ⟨fun d => r d - S, Real.sqrt (V + e), Real.sqrt_pos.2 hpos, fun g b => ⟨?_, ?_⟩⟩
  · funext d
    unfold normR
    simp only [mean_coe, ← hS, ← EReal.coe_sub, ← EReal.coe_mul, ← hV, hE, ← EReal.coe_add, Ideal.sqrt_coe, if_neg (not_lt.2 hpos.le)]
  · funext d
    unfold normK
    simp only [mean_coe, ← hS, ← EReal.coe_sub, ← EReal.coe_mul]
    rw [show (∑ k, r k * r k) / 128 - S * S = V by rw [hS, variance_eq]]
    simp only [hE, ← EReal.coe_add, Ideal.rsqrt_coe, if_neg (not_lt.2 hpos.le), if_neg hpos.ne']

/-- On a row of real numbers the kernel's normalisation is the reference's, whatever the gain and the shift. -/
theorem normK_eq_normR (g b r : Feat) (h : ∀ d, IsReal (r d)) : normK g b r = normR g b r := by
  choose q hq using h
  obtain rfl : r = fun d => (q d : EReal) := funext hq
  obtain ⟨c, s, hs, hn⟩ := norm_coe q
  rw [(hn g b).1, (hn g b).2]
  funext d
  rw [Ideal.div_coe hs.ne', one_div, mul_assoc]

/-- The normalisation of a row of real numbers with a real gain and a real shift is real. -/
theorem normR_real (g b r : Feat) (h : ∀ d, IsReal (r d)) (hg : ∀ d, IsReal (g d)) (hb : ∀ d, IsReal (b d)) (d : Fin 128) :
    IsReal (normR g b r d) := by
  choose q hq using h
  obtain rfl : r = fun d => (q d : EReal) := funext hq
  obtain ⟨c, s, hs, hn⟩ := norm_coe q
  rw [(hn g b).1]
  show IsReal (Ideal.div (c d : EReal) (s : EReal) * g d + b d)
  rw [Ideal.div_coe hs.ne']
  exact (((IsReal.coe _).mul (IsReal.coe _)).mul (hg d)).add (hb d)

/-- The two activations are one function on the extended reals. -/
theorem geluK_eq_geluR : geluK = geluR := by
  funext x
  unfold geluK geluR
  rw [EReal.neg_mul, Ideal.erfc_neg]

/-- The activation of a real number is real. -/
theorem geluK_real {x : EReal} (h : IsReal x) : IsReal (geluK x) := by
  obtain ⟨r, rfl⟩ := h
  unfold geluK half invSqrt2
  rw [← EReal.coe_mul r, Ideal.erf_coe]
  exact ((IsReal.coe _).mul (IsReal.coe _)).mul (IsReal.add ⟨1, rfl⟩ (IsReal.coe _))

theorem dense_real {n : ℕ} {W : Fin n → Feat} {b : Feat} {x : Nodes n} (hW : ∀ k d, IsReal (W k d)) (hb : ∀ d, IsReal (b d))
    (hx : ∀ i k, IsReal (x i k)) (i : Fin 20) (d : Fin 128) : IsReal (dense W b x i d) :=
  (IsReal.sum _ fun k => (hx i k).mul (hW k d)).add (hb d)

theorem gather_real {A : Nodes 20} {h : Nodes 128} (hA : ∀ i j, IsReal (A i j)) (hh : ∀ i d, IsReal (h i d)) (i : Fin 20) (d : Fin 128) :
    IsReal (gather A h i d) := IsReal.sum _ fun j => (hA i j).mul (hh j d)

/-- The parameters whose entries have to be real numbers: all but the second layer's gain and shift. -/
structure Params.Real (p : Params) : Prop where
  We : ∀ k d, IsReal (p.We k d)
  be : ∀ d, IsReal (p.be d)
  W1 : ∀ k d, IsReal (p.W1 k d)
  b1 : ∀ d, IsReal (p.b1 d)
  W2 : ∀ k d, IsReal (p.W2 k d)
  b2 : ∀ d, IsReal (p.b2 d)
  g1 : ∀ d, IsReal (p.g1 d)
  t1 : ∀ d, IsReal (p.t1 d)

/-- The kernel's network is the reference's, for one and the same matrix of neighbours with real entries. -/
theorem network_eq (A : Nodes 20) (p : Params) (x : Nodes 9) (hA : ∀ i j, IsReal (A i j)) (hp : p.Real) (hx : ∀ i k, IsReal (x i k)) :
    network normK geluK A p x = network normR geluR A p x := by
  have h1 : ∀ i d, IsReal (layer1 A p x i d) := dense_real hp.W1 hp.b1 (gather_real hA (dense_real hp.We hp.be hx))
  have e1 : hidden normK geluK A p x = hidden normR geluK A p x := by
    funext i d; unfold hidden; rw [normK_eq_normR _ _ _ (h1 i)]
  have h2 : ∀ i d, IsReal (hidden normR geluK A p x i d) := fun i d =>
    geluK_real (normR_real _ _ _ (h1 i) hp.g1 hp.t1 d)
  have h3 : ∀ i d, IsReal (layer2 A p (hidden normR geluK A p x) i d) := dense_real hp.W2 hp.b2 (gather_real hA h2)
  unfold network
  rw [e1, ← geluK_eq_geluR]
  congr 1
  funext i d
  unfold residual
  rw [normK_eq_normR _ _ _ (h3 i)]

end Cert.Proof

end
-- ==== Proof.Pre.lean ====
/-
  What the precondition says of the arguments: every one it names is finite, and of two nodes at one clamped distance from a
  third, at least five are nearer.
-/
module

public import proofs.«01_k».proof.Pre_neighbours_distinct
public import proofs.«01_k».proof.Proof.Gen.Pre_neighbours_distinct
public import proofs.«01_k».proof.Proof.RefDist
public import proofs.«01_k».proof.Proof.Norm

@[expose] public section

noncomputable section

namespace Cert.Proof

open Idealize.ShloMosaic
open Cert.Pre_neighbours_distinct Cert.Pre_neighbours_distinct.Gen

theorem host_top : Ideal.ofBits FTy.f32 0x7F800000#32 = ⊤ := by simp [Ideal.ofBits, Ideal.ieee]

theorem host_five : Ideal.ofBits FTy.f32 0x40A00000#32 = ((5 : ℝ) : EReal) := by
  simp [Ideal.ofBits, Ideal.ieee, -EReal.coe_mul]; norm_num

theorem ofBool_one (b : Bool) : BitVec.ofBool b = 1#1 ↔ b = true := by cases b <;> decide

theorem or_one (a b : BitVec 1) : IntOp.ori a b = 1#1 ↔ a = 1#1 ∨ b = 1#1 := by revert a b; decide

theorem real_of_abs_lt {x : EReal} (h : max x (-x) < ⊤) : IsReal x := by
  induction x with
  | bot => simp at h
  | top => simp at h
  | coe r => exact ⟨r, rfl⟩

/-- An array below infinity in absolute value holds reals. -/
theorem finite_real {s : Shape} (b : S_.BroadcastsInDim s (![] : Fin 0 → Fin s.rank)) (x : FVec Ideal s .f32)
    (h : cmpf .olt (Host.absf x) (broadcastInDim s ![] b (constant (F := Ideal) S_ .f32 0x7F800000#32)) = fun _ => 1#1) (i : s.Idx) : IsReal (x i) := by
  have e := congrFun h i
  change Ideal.cmp .olt (max (x i) (-(x i))) (Ideal.ofBits FTy.f32 0x7F800000#32) = 1#1 at e
  rw [host_top] at e
  unfold Ideal.cmp at e
  exact real_of_abs_lt (of_decide_eq_true ((ofBool_one _).1 e))

/-- The precondition's first array, of the clamped distances. -/
def apart (y : FVec Ideal S16384x20x20 .f32) : IVec S16384x20x20x20 1 :=
  ori (ori (cmpf .une
        (broadcastInDim S16384x20x20x20 ![0, 1, 2, 3] bcast_S16384x20x20x1_S16384x20x20x20_0_1_2_3 (broadcastInDim S16384x20x20x1 ![0, 1, 2] bcast_S16384x20x20_S16384x20x20x1_0_1_2 y))
        (broadcastInDim S16384x20x20x20 ![0, 1, 2, 3] bcast_S16384x20x1x20_S16384x20x20x20_0_1_2_3 (broadcastInDim S16384x20x1x20 ![0, 1, 3] bcast_S16384x20x20_S16384x20x1x20_0_1_3 y)))
      (broadcastInDim S16384x20x20x20 ![0, 1, 2, 3] bcast_S1x1x20x20_S16384x20x20x20_0_1_2_3 (cmpi .eq (iotaInDim S1x1x20x20 32 2) (iotaInDim S1x1x20x20 32 3))))
    (broadcastInDim S16384x20x20x20 ![0, 1, 2, 3] bcast_S16384x20x20x1_S16384x20x20x20_0_1_2_3 (cmpf .oge
      (broadcastInDim S16384x20x20x1 ![0, 1, 2] bcast_S16384x20x20_S16384x20x20x1_0_1_2
        (Host.reduceAdd (uitofp (F := Ideal) .f32 (cmpf .olt
            (broadcastInDim S16384x20x20x20 ![0, 1, 2, 3] bcast_S16384x20x1x20_S16384x20x20x20_0_1_2_3 (broadcastInDim S16384x20x1x20 ![0, 1, 3] bcast_S16384x20x20_S16384x20x1x20_0_1_3 y))
            (broadcastInDim S16384x20x20x20 ![0, 1, 2, 3] bcast_S16384x20x20x1_S16384x20x20x20_0_1_2_3 (broadcastInDim S16384x20x20x1 ![0, 1, 2] bcast_S16384x20x20_S16384x20x20x1_0_1_2 y))))
          (constant (F := Ideal) S_ .f32 0x00000000#32) reducesTo_S16384x20x20x20_S16384x20x20_d3 h_S_))
      (broadcastInDim S16384x20x20x1 ![] bcast_S_S16384x20x20x1 (constant (F := Ideal) S_ .f32 0x40A00000#32))))

theorem count_real (p : Fin 20 → Prop) [DecidablePred p] : (∑ l, if p l then (1 : EReal) else 0) = (((Finset.univ.filter p).card : ℝ) : EReal) := by
  have e : ∀ l, (if p l then (1 : EReal) else 0) = ((if p l then (1 : ℝ) else 0 : ℝ) : EReal) := fun l => by split <;> simp
  simp only [e, ← coe_sum]
  rw [Finset.sum_boole]

theorem bit_count (p : Prop) [Decidable p] : (FloatOps.uitofp FTy.f32 (BitVec.ofBool (decide p)) : Ideal .f32) = if p then 1 else 0 := by
  show (((BitVec.ofBool (decide p)).toNat : ℝ) : EReal) = _
  by_cases h : p <;> simp [h]

theorem apart_apply (y : Arr3 16384 20 20) (g : Fin 16384) (i j k : Fin 20) : apart y (ix4 g i j k) = 1#1
    ↔ (y (ix3 g i j) ≠ y (ix3 g i k) ∨ j = k) ∨ 5 ≤ rank (fun l => y (ix3 g i l)) j := by
  pointwise [apart]
  simp only [host_zero, host_five, zero_add, bit_count, count_real]
  have hword : IntOp.cmpi CmpIPredicate.eq (BitVec.ofNat 32 j.val) (BitVec.ofNat 32 k.val) = BitVec.ofBool (decide (j = k)) := by
    revert j k; decide
  have hfive : (((5 : ℝ) : EReal) ≤ (((Finset.univ.filter fun l => y (ix3 g i l) < y (ix3 g i j)).card : ℝ) : EReal))
      ↔ 5 ≤ rank (fun l => y (ix3 g i l)) j := by
    rw [EReal.coe_le_coe_iff]
    exact_mod_cast Iff.rfl
  rw [hword, or_one, or_one, ofBool_one, ofBool_one, ofBool_one, decide_eq_true_iff, decide_eq_true_iff, decide_eq_true_iff, hfive]

/-- The nearest five of every node are told apart by their clamped distances. -/
theorem distinct_of_apart (x0 : Arr3 16384 20 9) (h : apart (Cert.ReferenceIdeal.Read.val_main_v9 (F := Ideal) x0) = fun _ => 1#1)
    (g : Fin 16384) (i : Fin 20) : Distinct (floored tiny (sqdist (positions x0 g) i)) := fun j k => by
  have e := (apart_apply _ g i j k).1 (congrFun h _)
  simp only [floored_apply, or_assoc] at e
  exact e

/-- What the precondition grants the proof. -/
theorem of_pre (x0 : Arr3 16384 20 9) (x1 : Arr2 9 128) (x2 : Arr1 128) (x3 : Arr2 128 128) (x4 : Arr1 128) (x5 : Arr2 128 128)
    (x6 x7 x8 x9 x10 : Arr1 128)
    (h : (fn (F := Ideal) x0 x1 x2 x3 x4 x5 x6 x7 x8 x9 x10).1 = (fun _ => 1#1)
      ∧ (fn (F := Ideal) x0 x1 x2 x3 x4 x5 x6 x7 x8 x9 x10).2.1 = (fun _ => 1#1)
      ∧ (fn (F := Ideal) x0 x1 x2 x3 x4 x5 x6 x7 x8 x9 x10).2.2.1 = (fun _ => 1#1)
      ∧ (fn (F := Ideal) x0 x1 x2 x3 x4 x5 x6 x7 x8 x9 x10).2.2.2.1 = (fun _ => 1#1)
      ∧ (fn (F := Ideal) x0 x1 x2 x3 x4 x5 x6 x7 x8 x9 x10).2.2.2.2.1 = (fun _ => 1#1)
      ∧ (fn (F := Ideal) x0 x1 x2 x3 x4 x5 x6 x7 x8 x9 x10).2.2.2.2.2.1 = (fun _ => 1#1)
      ∧ (fn (F := Ideal) x0 x1 x2 x3 x4 x5 x6 x7 x8 x9 x10).2.2.2.2.2.2.1 = (fun _ => 1#1)
      ∧ (fn (F := Ideal) x0 x1 x2 x3 x4 x5 x6 x7 x8 x9 x10).2.2.2.2.2.2.2.1 = (fun _ => 1#1)
      ∧ (fn (F := Ideal) x0 x1 x2 x3 x4 x5 x6 x7 x8 x9 x10).2.2.2.2.2.2.2.2.1 = (fun _ => 1#1)
      ∧ (fn (F := Ideal) x0 x1 x2 x3 x4 x5 x6 x7 x8 x9 x10).2.2.2.2.2.2.2.2.2 = (fun _ => 1#1)) :
    (∀ g i, Distinct (floored tiny (sqdist (positions x0 g) i))) ∧ (∀ g i k, IsReal (nodes x0 g i k))
      ∧ (weights x1 x2 x3 x4 x5 x6 x7 x8 x9 x10).Real := by
  obtain ⟨h0, hx, hWe, hbe, hW1, hb1, hW2, hb2, hg1, ht1⟩ := h
  refine ⟨distinct_of_apart x0 h0, fun g i k => finite_real bcast_S_S16384x20x9 x0 hx _, ?_⟩
  exact ⟨fun k d => finite_real bcast_S_S9x128 x1 hWe _, fun d => finite_real bcast_S_S128 x2 hbe _,
    fun k d => finite_real bcast_S_S128x128 x3 hW1 _, fun d => finite_real bcast_S_S128 x4 hb1 _,
    fun k d => finite_real bcast_S_S128x128 x5 hW2 _, fun d => finite_real bcast_S_S128 x6 hb2 _,
    fun d => finite_real bcast_S_S128 x7 hg1 _, fun d => finite_real bcast_S_S128 x8 ht1 _⟩

end Cert.Proof

end
-- ==== Proof.Results.lean ====
/-
  The two runs: what the result array of each program holds at the end, and that the precondition makes the two equal.
-/
module

public import proofs.«01_k».proof.Proof.Array
public import proofs.«01_k».proof.Proof.RefAdj
public import proofs.«01_k».proof.Proof.Pre
public import proofs.«01_k».proof.Proof.Gen.ReferenceIdeal.Run
public import Idealize.ShloMosaic.Lib.Claim

@[expose] public section

noncomputable section

namespace Cert.Proof

open Idealize.ShloMosaic Idealize.SL.Sem

/-- The kernel's run leaves its result array at the network of every graph, with the kernel's choice of neighbours. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD, r.2.mem ((c.tc : Thread Cert.KernelIdeal.nD Cert.KernelIdeal.τ).loc Cert.KernelIdeal.main_v0)
        = result normK geluK adjK (weightsK m c) (m ((c.tc : Thread Cert.KernelIdeal.nD Cert.KernelIdeal.τ).loc Cert.KernelIdeal.main_arg0)) :=
  (θ_run Cert.KernelIdeal.defs _ _).mono (fun _ h c => (h.out_eq c 12).trans (array_eq m c)) (Cert.KernelIdeal.Gen.run_main (F := Ideal) m ρ)

/-- What the reference makes of the arguments is the same network with its own neighbours, spelling of the normalisation and activation. -/
theorem reference_result (x0 : Arr3 16384 20 9) (x1 : Arr2 9 128) (x2 : Arr1 128) (x3 : Arr2 128 128) (x4 : Arr1 128) (x5 : Arr2 128 128)
    (x6 x7 x8 x9 x10 : Arr1 128) (hd : ∀ g i, Distinct (floored tiny (sqdist (positions x0 g) i))) (hx : ∀ g i k, IsReal (nodes x0 g i k))
    (hp : (weights x1 x2 x3 x4 x5 x6 x7 x8 x9 x10).Real) :
    Cert.ReferenceIdeal.Read.val_main_v117 (F := Ideal) x0 x1 x2 x3 x4 x5 x6 x7 x8 x9 x10
      = result normK geluK adjK (weights x1 x2 x3 x4 x5 x6 x7 x8 x9 x10) x0 := by
  funext j
  obtain ⟨g, d, rfl⟩ : ∃ (g : Fin 16384) (d : Fin 128), j = ix2 g d := ⟨j 0, j 1, funext fun a => by fin_cases a <;> rfl⟩
  rw [reference_apply, adj_eq x0 g (hd g)]
  have hA : ∀ i j, IsReal (adjK (positions x0 g) i j) := fun i j => by
    unfold adjK
    split
    · exact ⟨1, by simp⟩
    · exact ⟨0, by simp⟩
  exact (congrFun (network_eq (adjK (positions x0 g)) _ (nodes x0 g) hA hp (hx g)) d).symm

end Cert.Proof

end
-- ==== Proof.lean ====
/-
  The certificate: the three frames, the idealization of the kernel, and that the idealized kernel and the idealized reference
  end with equal result arrays wherever the precondition holds.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_neighbours_distinct
public import proofs.«01_k».proof.Proof.Results

@[expose] public section

noncomputable section

namespace Cert.Proof

open Idealize.ShloMosaic Idealize.SL.Sem

/-- The reference has no semaphores, so every counter ends at zero; its arguments are unchanged. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each named constant is the value its word is read as. -/
theorem named : Cert.preserves_Kernel_KernelIdeal :=
  ⟨IdealRules.named_const.statement Cert.KernelIdeal.κ "far" .f32 0x7F61B1E6#32 ⊤ rfl,
    IdealRules.named_const.statement Cert.KernelIdeal.κ "inv_sqrt2" .bf16 0x3F35#16 ((11863283 / 16777216 : ℝ) : EReal) rfl⟩

/-- Equal arguments give the reference equal results. -/
theorem value_of_equal {x0 y0 : Arr3 16384 20 9} {x1 y1 : Arr2 9 128} {x2 y2 : Arr1 128} {x3 y3 : Arr2 128 128} {x4 y4 : Arr1 128}
    {x5 y5 : Arr2 128 128} {x6 y6 x7 y7 x8 y8 x9 y9 x10 y10 : Arr1 128} (a0 : y0 = x0) (a1 : y1 = x1) (a2 : y2 = x2) (a3 : y3 = x3)
    (a4 : y4 = x4) (a5 : y5 = x5) (a6 : y6 = x6) (a7 : y7 = x7) (a8 : y8 = x8) (a9 : y9 = x9) (a10 : y10 = x10) :
    Cert.ReferenceIdeal.Read.val_main_v117 (F := Ideal) y0 y1 y2 y3 y4 y5 y6 y7 y8 y9 y10
      = Cert.ReferenceIdeal.Read.val_main_v117 (F := Ideal) x0 x1 x2 x3 x4 x5 x6 x7 x8 x9 x10 := by
  subst a0 a1 a2 a3 a4 a5 a6 a7 a8 a9 a10
  rfl

/-- Both runs end, with equal results and unchanged arguments. -/
theorem results_equal : Cert.algebraic_KernelIdeal_ReferenceIdeal_pre_neighbours_distinct := by
  intro m ρ m' ρ' hpre hagree
  refine ⟨fun c => result normK geluK adjK (weightsK m c) (m ((c.tc : Thread Cert.KernelIdeal.nD Cert.KernelIdeal.τ).loc Cert.KernelIdeal.main_arg0)), ?_, ?_⟩
  · exact (θ_run Cert.KernelIdeal.defs _ _).mono (fun _ h c => ⟨h.1 c, h.2 c⟩)
      (θ_run_and (kernel_run m ρ) (Cert.KernelIdeal.Gen.unchanged (F := Ideal) m ρ))
  · refine (θ_run Cert.ReferenceIdeal.defs _ _).mono (fun _ h c => ⟨(h c).1.trans ?_, (h c).2⟩) (Cert.ReferenceIdeal.Value.run (F := Ideal) m' ρ')
    obtain ⟨hd, hx, hp⟩ := of_pre _ _ _ _ _ _ _ _ _ _ _ (hpre c)
    obtain ⟨a0, a1, a2, a3, a4, a5, a6, a7, a8, a9, a10⟩ := hagree c
    exact (Cert.ReferenceIdeal.Read.val_main_v117_eq (F := Ideal) _).trans
      ((value_of_equal a0 a1 a2 a3 a4 a5 a6 a7 a8 a9 a10).trans (reference_result _ _ _ _ _ _ _ _ _ _ _ hd hx hp))

theorem claim : Cert.Claim :=
  ⟨Cert.Kernel.Gen.facts, Cert.KernelIdeal.Gen.facts, Cert.ReferenceIdeal.Gen.facts, Cert.Pre_neighbours_distinct.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, named, results_equal⟩

end Cert.Proof

end
